-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_varied [hPre_varied : Cert.Pre_varied.Facts] (m : (ℓ : Loc Cert.KernelIdeal.nD Cert.KernelIdeal.τ Cert.KernelIdeal.sig) → Buf (Elt Ideal) ℓ) : Prop :=
  ∀ c : Dev Cert.KernelIdeal.nD,
    (Cert.Pre_varied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_varied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_varied [hPre_varied : Cert.Pre_varied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_varied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_varied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_varied [hKernelIdeal : Cert.KernelIdeal.Facts] [hPre_varied : Cert.Pre_varied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_varied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_varied [hReferenceIdeal : Cert.ReferenceIdeal.Facts] [hPre_varied : Cert.Pre_varied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_varied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv768" .f32 0x3AAAAAAB#32 ((768⁻¹ : ℝ) : EReal)

def algebraic_KernelIdeal_ReferenceIdeal_pre_varied [hKernelIdeal : Cert.KernelIdeal.Facts] [hReferenceIdeal : Cert.ReferenceIdeal.Facts] [hPre_varied : Cert.Pre_varied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_varied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_varied : Cert.Pre_varied.Facts),
    quiescent_Kernel (hKernel := hKernel)
    ∧ quiescent_KernelIdeal (hKernelIdeal := hKernelIdeal)
    ∧ quiescent_KernelIdeal_pre_varied (hKernelIdeal := hKernelIdeal) (hPre_varied := hPre_varied)
    ∧ quiescent_ReferenceIdeal (hReferenceIdeal := hReferenceIdeal)
    ∧ quiescent_ReferenceIdeal_pre_varied (hReferenceIdeal := hReferenceIdeal) (hPre_varied := hPre_varied)
    ∧ preserves_Kernel_KernelIdeal
    ∧ algebraic_KernelIdeal_ReferenceIdeal_pre_varied (hKernelIdeal := hKernelIdeal) (hReferenceIdeal := hReferenceIdeal) (hPre_varied := hPre_varied)
-- ==== Pre_varied.lean ====
abbrev S16x12x128x64 : Shape := ⟨4, ![16, 12, 128, 64]⟩
abbrev S960x256 : Shape := ⟨2, ![960, 256]⟩
abbrev S256 : Shape := ⟨1, ![256]⟩
abbrev S960x128 : Shape := ⟨2, ![960, 128]⟩
abbrev S128 : Shape := ⟨1, ![128]⟩
abbrev S1280x256 : Shape := ⟨2, ![1280, 256]⟩
abbrev S1280x128 : Shape := ⟨2, ![1280, 128]⟩
abbrev S128x1 : Shape := ⟨2, ![128, 1]⟩
abbrev S1 : Shape := ⟨1, ![1]⟩
abbrev S16x128x12x64 : Shape := ⟨4, ![16, 128, 12, 64]⟩
abbrev S16x128x768 : Shape := ⟨3, ![16, 128, 768]⟩
abbrev S_ : Shape := ⟨0, ![]⟩
abbrev S16x128 : Shape := ⟨2, ![16, 128]⟩

class Facts : Prop where
  transposes_S16x12x128x64_S16x128x12x64_0_2_1_3 : S16x12x128x64.Transposes [0, 2, 1, 3] S16x128x12x64
  shapeCasts_S16x128x12x64_S16x128x768 : S16x128x12x64.ShapeCasts S16x128x768
  bcast_S_S16x128x768 : S_.BroadcastsInDim S16x128x768 (![] : Fin 0 → Fin S16x128x768.rank)
  reducesTo_S16x128x768_S16x128_d2 : S16x128x768.ReducesTo [2] S16x128
  h_S_ : 0 < S_.numel

variable [Facts]

def fn {F : FTy → Type} [FloatOps F] (main_arg0 : FVec F S16x12x128x64 .f32) (main_arg1 : FVec F S960x256 .f32) (main_arg2 : FVec F S256 .f32) (main_arg3 : FVec F S960x128 .f32) (main_arg4 : FVec F S128 .f32) (main_arg5 : FVec F S1280x256 .f32) (main_arg6 : FVec F S256 .f32) (main_arg7 : FVec F S1280x128 .f32) (main_arg8 : FVec F S128 .f32) (main_arg9 : FVec F S128x1 .f32) (main_arg10 : FVec F S1 .f32) : IVec S16x128x768 1 × IVec S16x128 1 :=
  let main_v0 : FVec F S16x128x12x64 .f32 := (transpose S16x128x12x64 [0, 2, 1, 3] · transposes_S16x12x128x64_S16x128x12x64_0_2_1_3) main_arg0
  let main_v1 : FVec F S16x128x768 .f32 := shapeCast S16x128x768 main_v0 shapeCasts_S16x128x12x64_S16x128x768
  let main_v2 : FVec F S16x128x768 .f32 := Host.absf main_v1
  let main_cst : FVec F S_ .f32 := constant S_ .f32 0x7F800000#32
  let main_v3 : FVec F S16x128x768 .f32 := broadcastInDim S16x128x768 ![] bcast_S_S16x128x768 main_cst
  let main_v4 : IVec S16x128x768 1 := cmpf .olt main_v2 main_v3
  let main_cst_0 : FVec F S_ .f32 := constant S_ .f32 0xFF800000#32
  let main_v5 : FVec F S16x128 .f32 := (fun x v => Host.reduce FloatOps.maximumf x v reducesTo_S16x128x768_S16x128_d2 h_S_) main_v1 main_cst_0
  let main_cst_1 : FVec F S_ .f32 := constant S_ .f32 0x7F800000#32
  let main_v6 : FVec F S16x128 .f32 := (fun x v => Host.reduce FloatOps.minimumf x v reducesTo_S16x128x768_S16x128_d2 h_S_) main_v1 main_cst_1
  let main_v7 : IVec S16x128 1 := cmpf .ogt main_v5 main_v6
  (main_v4, main_v7)
-- ==== Kernel.lean ====
abbrev S16x12x128x64 : Shape := ⟨4, ![16, 12, 128, 64]⟩
abbrev S960x256 : Shape := ⟨2, ![960, 256]⟩
abbrev S256 : Shape := ⟨1, ![256]⟩
abbrev S960x128 : Shape := ⟨2, ![960, 128]⟩
abbrev S128 : Shape := ⟨1, ![128]⟩
abbrev S1280x256 : Shape := ⟨2, ![1280, 256]⟩
abbrev S1280x128 : Shape := ⟨2, ![1280, 128]⟩
abbrev S128x1 : Shape := ⟨2, ![128, 1]⟩
abbrev S1 : Shape := ⟨1, ![1]⟩
abbrev S5x192x256 : Shape := ⟨3, ![5, 192, 256]⟩
abbrev S5x64x256 : Shape := ⟨3, ![5, 64, 256]⟩
abbrev S320x256 : Shape := ⟨2, ![320, 256]⟩
abbrev S5x128x256 : Shape := ⟨3, ![5, 128, 256]⟩
abbrev S640x256 : Shape := ⟨2, ![640, 256]⟩
abbrev S5x192x128 : Shape := ⟨3, ![5, 192, 128]⟩
abbrev S5x64x128 : Shape := ⟨3, ![5, 64, 128]⟩
abbrev S320x128 : Shape := ⟨2, ![320, 128]⟩
abbrev S5x128x128 : Shape := ⟨3, ![5, 128, 128]⟩
abbrev S640x128 : Shape := ⟨2, ![640, 128]⟩
abbrev S5x256x256 : Shape := ⟨3, ![5, 256, 256]⟩
abbrev S5x256x128 : Shape := ⟨3, ![5, 256, 128]⟩
abbrev S320x384 : Shape := ⟨2, ![320, 384]⟩
abbrev S384x320 : Shape := ⟨2, ![384, 320]⟩
abbrev S640x384 : Shape := ⟨2, ![640, 384]⟩
abbrev S384x640 : Shape := ⟨2, ![384, 640]⟩
abbrev S128x256 : Shape := ⟨2, ![128, 256]⟩
abbrev S_ : Shape := ⟨0, ![]⟩
abbrev S128x128 : Shape := ⟨2, ![128, 128]⟩
abbrev S128x384 : Shape := ⟨2, ![128, 384]⟩
abbrev S384x128 : Shape := ⟨2, ![384, 128]⟩
abbrev S384x448 : Shape := ⟨2, ![384, 448]⟩
abbrev S384x768 : Shape := ⟨2, ![384, 768]⟩
abbrev S512x256 : Shape := ⟨2, ![512, 256]⟩
abbrev S256x512 : Shape := ⟨2, ![256, 512]⟩
abbrev S256x1 : Shape := ⟨2, ![256, 1]⟩
abbrev S128x640 : Shape := ⟨2, ![128, 640]⟩
abbrev S1x1 : Shape := ⟨2, ![1, 1]⟩
abbrev S16x1x128 : Shape := ⟨3, ![16, 1, 128]⟩
abbrev S1x12x128x64 : Shape := ⟨4, ![1, 12, 128, 64]⟩
abbrev S12x128x64 : Shape := ⟨3, ![12, 128, 64]⟩
abbrev S12x64x128 : Shape := ⟨3, ![12, 64, 128]⟩
abbrev S768x128 : Shape := ⟨2, ![768, 128]⟩
abbrev S1x128 : Shape := ⟨2, ![1, 128]⟩
abbrev S128x512 : Shape := ⟨2, ![128, 512]⟩
abbrev S256x128 : Shape := ⟨2, ![256, 128]⟩
abbrev S64x128 : Shape := ⟨2, ![64, 128]⟩
abbrev S64x2048 : Shape := ⟨2, ![64, 2048]⟩
abbrev S320x2048 : Shape := ⟨2, ![320, 2048]⟩
abbrev S384x2048 : Shape := ⟨2, ![384, 2048]⟩
abbrev S128x2048 : Shape := ⟨2, ![128, 2048]⟩
abbrev S640x2048 : Shape := ⟨2, ![640, 2048]⟩
abbrev S448x2048 : Shape := ⟨2, ![448, 2048]⟩
abbrev S512x2048 : Shape := ⟨2, ![512, 2048]⟩
abbrev S256x2048 : Shape := ⟨2, ![256, 2048]⟩
abbrev S768x2048 : Shape := ⟨2, ![768, 2048]⟩
abbrev S2048 : Shape := ⟨1, ![2048]⟩
abbrev S1x2048 : Shape := ⟨2, ![1, 2048]⟩
abbrev S1x1x128 : Shape := ⟨3, ![1, 1, 128]⟩
abbrev S1x1x1 : Shape := ⟨3, ![1, 1, 1]⟩

abbrev nBuf : Space → Nat
  | .hbm => 59
  | .vmem => 14
  | .smem => 0
  | _ => 0

abbrev bufTy : (tb : Table) → Fin (tcTables nBuf tb) → BufTy
  | .hbm, ⟨0, _⟩ => ⟨S16x12x128x64, .f32⟩
  | .hbm, ⟨1, _⟩ => ⟨S960x256, .f32⟩
  | .hbm, ⟨2, _⟩ => ⟨S256, .f32⟩
  | .hbm, ⟨3, _⟩ => ⟨S960x128, .f32⟩
  | .hbm, ⟨4, _⟩ => ⟨S128, .f32⟩
  | .hbm, ⟨5, _⟩ => ⟨S1280x256, .f32⟩
  | .hbm, ⟨6, _⟩ => ⟨S256, .f32⟩
  | .hbm, ⟨7, _⟩ => ⟨S1280x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S5x192x256, .f32⟩
  | .hbm, ⟨12, _⟩ => ⟨S5x64x256, .f32⟩
  | .hbm, ⟨13, _⟩ => ⟨S320x256, .f32⟩
  | .hbm, ⟨14, _⟩ => ⟨S5x128x256, .f32⟩
  | .hbm, ⟨15, _⟩ => ⟨S640x256, .f32⟩
  | .hbm, ⟨16, _⟩ => ⟨S5x192x128, .f32⟩
  | .hbm, ⟨17, _⟩ => ⟨S5x64x128, .f32⟩
  | .hbm, ⟨18, _⟩ => ⟨S320x128, .f32⟩
  | .hbm, ⟨19, _⟩ => ⟨S5x128x128, .f32⟩
  | .hbm, ⟨20, _⟩ => ⟨S640x128, .f32⟩
  | .hbm, ⟨21, _⟩ => ⟨S5x256x256, .f32⟩
  | .hbm, ⟨22, _⟩ => ⟨S5x128x256, .f32⟩
  | .hbm, ⟨23, _⟩ => ⟨S640x256, .f32⟩
  | .hbm, ⟨24, _⟩ => ⟨S5x128x256, .f32⟩
  | .hbm, ⟨25, _⟩ => ⟨S640x256, .f32⟩
  | .hbm, ⟨26, _⟩ => ⟨S5x256x128, .f32⟩
  | .hbm, ⟨27, _⟩ => ⟨S5x128x128, .f32⟩
  | .hbm, ⟨28, _⟩ => ⟨S640x128, .f32⟩
  | .hbm, ⟨29, _⟩ => ⟨S5x128x128, .f32⟩
  | .hbm, ⟨30, _⟩ => ⟨S640x128, .f32⟩
  | .hbm, ⟨31, _⟩ => ⟨S320x384, .f32⟩
  | .hbm, ⟨32, _⟩ => ⟨S384x320, .f32⟩
  | .hbm, ⟨33, _⟩ => ⟨S640x384, .f32⟩
  | .hbm, ⟨34, _⟩ => ⟨S384x640, .f32⟩
  | .hbm, ⟨35, _⟩ => ⟨S128x256, .f32⟩
  | .hbm, ⟨36, _⟩ => ⟨S_, .f32⟩
  | .hbm, ⟨37, _⟩ => ⟨S128x128, .f32⟩
  | .hbm, ⟨38, _⟩ => ⟨S128x384, .f32⟩
  | .hbm, ⟨39, _⟩ => ⟨S384x128, .f32⟩
  | .hbm, ⟨40, _⟩ => ⟨S128x256, .f32⟩
  | .hbm, ⟨41, _⟩ => ⟨S_, .f32⟩
  | .hbm, ⟨42, _⟩ => ⟨S128x128, .f32⟩
  | .hbm, ⟨43, _⟩ => ⟨S128x384, .f32⟩
  | .hbm, ⟨44, _⟩ => ⟨S384x128, .f32⟩
  | .hbm, ⟨45, _⟩ => ⟨S384x448, .f32⟩
  | .hbm, ⟨46, _⟩ => ⟨S384x768, .f32⟩
  | .hbm, ⟨47, _⟩ => ⟨S512x256, .f32⟩
  | .hbm, ⟨48, _⟩ => ⟨S512x256, .f32⟩
  | .hbm, ⟨49, _⟩ => ⟨S256x512, .f32⟩
  | .hbm, ⟨50, _⟩ => ⟨S256x1, .f32⟩
  | .hbm, ⟨51, _⟩ => ⟨S128x640, .f32⟩
  | .hbm, ⟨52, _⟩ => ⟨S128x1, .f32⟩
  | .hbm, ⟨53, _⟩ => ⟨S256x512, .f32⟩
  | .hbm, ⟨54, _⟩ => ⟨S256x1, .f32⟩
  | .hbm, ⟨55, _⟩ => ⟨S128x640, .f32⟩
  | .hbm, ⟨56, _⟩ => ⟨S128x1, .f32⟩
  | .hbm, ⟨57, _⟩ => ⟨S1x1, .f32⟩
  | .hbm, ⟨58, _⟩ => ⟨S16x1x128, .f32⟩
  | .local _ .vmem, ⟨0, _⟩ => ⟨S16x12x128x64, .f32⟩
  | .local _ .vmem, ⟨1, _⟩ => ⟨S384x448, .f32⟩
  | .local _ .vmem, ⟨2, _⟩ => ⟨S256x512, .f32⟩
  | .local _ .vmem, ⟨3, _⟩ => ⟨S256x1, .f32⟩
  | .local _ .vmem, ⟨4, _⟩ => ⟨S128x640, .f32⟩
  | .local _ .vmem, ⟨5, _⟩ => ⟨S128x1, .f32⟩
  | .local _ .vmem, ⟨6, _⟩ => ⟨S384x768, .f32⟩
  | .local _ .vmem, ⟨7, _⟩ => ⟨S256x512, .f32⟩
  | .local _ .vmem, ⟨8, _⟩ => ⟨S256x1, .f32⟩
  | .local _ .vmem, ⟨9, _⟩ => ⟨S128x640, .f32⟩
  | .local _ .vmem, ⟨10, _⟩ => ⟨S128x1, .f32⟩
  | .local _ .vmem, ⟨11, _⟩ => ⟨S128x1, .f32⟩
  | .local _ .vmem, ⟨12, _⟩ => ⟨S1x1, .f32⟩
  | .local _ .vmem, ⟨13, _⟩ => ⟨S16x1x128, .f32⟩
  | _, _ => ⟨S16x12x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v5904 : BitVec 1 := Scalar.cmpi .eq arg0 c0_i32
  let v5905 : BitVec 32 := Scalar.extui v5904
  let c0_i32_935 : BitVec 32 := 0#32
  let v5906 : BitVec 1 := Scalar.cmpi .ne v5905 c0_i32_935
  v5906

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x12x128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S384x448 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "inv768" => some ((768⁻¹ : ℝ) : EReal)
  | _ => none
-- ==== ReferenceIdeal.lean ====
abbrev S16x12x128x64 : Shape := ⟨4, ![16, 12, 128, 64]⟩
abbrev S960x256 : Shape := ⟨2, ![960, 256]⟩
abbrev S256 : Shape := ⟨1, ![256]⟩
abbrev S960x128 : Shape := ⟨2, ![960, 128]⟩
abbrev S128 : Shape := ⟨1, ![128]⟩
abbrev S1280x256 : Shape := ⟨2, ![1280, 256]⟩
abbrev S1280x128 : Shape := ⟨2, ![1280, 128]⟩
abbrev S128x1 : Shape := ⟨2, ![128, 1]⟩
abbrev S1 : Shape := ⟨1, ![1]⟩
abbrev S16x128x12x64 : Shape := ⟨4, ![16, 128, 12, 64]⟩
abbrev S16x128x768 : Shape := ⟨3, ![16, 128, 768]⟩
abbrev S_ : Shape := ⟨0, ![]⟩
abbrev S16x128 : Shape := ⟨2, ![16, 128]⟩
abbrev S16x128x1 : Shape := ⟨3, ![16, 128, 1]⟩
abbrev S16x128x128 : Shape := ⟨3, ![16, 128, 128]⟩
abbrev S16x1x128 : Shape := ⟨3, ![16, 1, 128]⟩
abbrev S1x16x128x128 : Shape := ⟨4, ![1, 16, 128, 128]⟩
abbrev S2x16x128x128 : Shape := ⟨4, ![2, 16, 128, 128]⟩
abbrev S16x1x128x64 : Shape := ⟨4, ![16, 1, 128, 64]⟩
abbrev S16x128x64 : Shape := ⟨3, ![16, 128, 64]⟩
abbrev S16x128x192 : Shape := ⟨3, ![16, 128, 192]⟩
abbrev S16x128x960 : Shape := ⟨3, ![16, 128, 960]⟩
abbrev S16x128x256 : Shape := ⟨3, ![16, 128, 256]⟩
abbrev S1x1x256 : Shape := ⟨3, ![1, 1, 256]⟩
abbrev S1x1x128 : Shape := ⟨3, ![1, 1, 128]⟩
abbrev S16x128x1280 : Shape := ⟨3, ![16, 128, 1280]⟩
abbrev S1x1x1 : Shape := ⟨3, ![1, 1, 1]⟩
abbrev S16 : Shape := ⟨1, ![16]⟩
abbrev S16x1x1 : Shape := ⟨3, ![16, 1, 1]⟩

abbrev nBuf : Space → Nat
  | .hbm => 222
  | .vmem => 0
  | .smem => 0
  | _ => 0

abbrev hbmTy0_0 (i : Nat) : BufTy := match i % 128 with
  | 0 => ⟨S16x12x128x64, .f32⟩
  | 1 => ⟨S960x256, .f32⟩
  | 2 => ⟨S256, .f32⟩
  | 3 => ⟨S960x128, .f32⟩
  | 4 => ⟨S128, .f32⟩
  | 5 => ⟨S1280x256, .f32⟩
  | 6 => ⟨S256, .f32⟩
  | 7 => ⟨S1280x128, .f32⟩
  | 8 => ⟨S128, .f32⟩
  | 9 => ⟨S128x1, .f32⟩
  | 10 => ⟨S1, .f32⟩
  | 11 => ⟨S16x128x12x64, .f32⟩
  | 12 => ⟨S16x128x768, .f32⟩
  | 13 => ⟨S_, .f32⟩
  | 14 => ⟨S16x128, .f32⟩
  | 15 => ⟨S16x128x1, .f32⟩
  | 16 => ⟨S_, .f32⟩
  | 17 => ⟨S16x128x1, .f32⟩
  | 18 => ⟨S16x128x1, .f32⟩
  | 19 => ⟨S16x128x768, .f32⟩
  | 20 => ⟨S16x128x768, .f32⟩
  | 21 => ⟨S16x128x128, .f32⟩
  | 22 => ⟨S16x128, .f32⟩
  | 23 => ⟨S_, .f32⟩
  | 24 => ⟨S_, .f32⟩
  | 25 => ⟨S16x128, .f32⟩
  | 26 => ⟨S16x128, .f32⟩
  | 27 => ⟨S16x128, .f32⟩
  | 28 => ⟨S16x128x1, .f32⟩
  | 29 => ⟨S16x1x128, .f32⟩
  | 30 => ⟨S16x128x128, .f32⟩
  | 31 => ⟨S16x128x128, .f32⟩
  | 32 => ⟨S16x128x128, .f32⟩
  | 33 => ⟨S16x128x128, .f32⟩
  | 34 => ⟨S16x128x128, .f32⟩
  | 35 => ⟨S_, .f32⟩
  | 36 => ⟨S16x128, .f32⟩
  | 37 => ⟨S16x128x1, .f32⟩
  | 38 => ⟨S16x128x128, .f32⟩
  | 39 => ⟨S16x128x128, .f32⟩
  | 40 => ⟨S16x128x128, .f32⟩
  | 41 => ⟨S_, .f32⟩
  | 42 => ⟨S16x128, .f32⟩
  | 43 => ⟨S16x128x1, .f32⟩
  | 44 => ⟨S16x128x128, .f32⟩
  | 45 => ⟨S16x128x128, .f32⟩
  | 46 => ⟨S1x16x128x128, .f32⟩
  | 47 => ⟨S1x16x128x128, .f32⟩
  | 48 => ⟨S2x16x128x128, .f32⟩
  | 49 => ⟨S_, .f32⟩
  | 50 => ⟨S16x128x128, .f32⟩
  | 51 => ⟨S_, .f32⟩
  | 52 => ⟨S16x128x128, .f32⟩
  | 53 => ⟨S_, .i32⟩
  | 54 => ⟨S_, .i32⟩
  | 55 => ⟨S16x12x128x64, .f32⟩
  | 56 => ⟨S2x16x128x128, .f32⟩
  | 57 => ⟨S960x256, .f32⟩
  | 58 => ⟨S256, .f32⟩
  | 59 => ⟨S960x128, .f32⟩
  | 60 => ⟨S128, .f32⟩
  | 61 => ⟨S1280x256, .f32⟩
  | 62 => ⟨S256, .f32⟩
  | 63 => ⟨S1280x128, .f32⟩
  | 64 => ⟨S128, .f32⟩
  | 65 => ⟨S_, .i32⟩
  | 66 => ⟨S_, .i32⟩
  | 67 => ⟨S16x128x128, .f32⟩
  | 68 => ⟨S16x128x128, .f32⟩
  | 69 => ⟨S_, .i32⟩
  | 70 => ⟨S_, .i1⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S16x1x128x64, .f32⟩
  | 83 => ⟨S16x128x64, .f32⟩
  | 84 => ⟨S16x128x192, .f32⟩
  | 85 => ⟨S1x16x128x128, .f32⟩
  | 86 => ⟨S16x128x128, .f32⟩
  | 87 => ⟨S16x128x192, .f32⟩
  | 88 => ⟨S16x128x192, .f32⟩
  | 89 => ⟨S_, .f32⟩
  | 90 => ⟨S16x128x192, .f32⟩
  | 91 => ⟨S16x128x192, .f32⟩
  | 92 => ⟨S16x128x192, .f32⟩
  | 93 => ⟨S1x16x128x128, .f32⟩
  | 94 => ⟨S16x128x128, .f32⟩
  | 95 => ⟨S16x128x192, .f32⟩
  | 96 => ⟨S16x128x192, .f32⟩
  | 97 => ⟨S_, .f32⟩
  | 98 => ⟨S16x128x192, .f32⟩
  | 99 => ⟨S16x128x192, .f32⟩
  | 100 => ⟨S16x128x192, .f32⟩
  | 101 => ⟨S16x128x960, .f32⟩
  | 102 => ⟨S16x128x256, .f32⟩
  | 103 => ⟨S1x1x256, .f32⟩
  | 104 => ⟨S16x128x256, .f32⟩
  | 105 => ⟨S16x128x256, .f32⟩
  | 106 => ⟨S16x128x256, .f32⟩
  | 107 => ⟨S16x128x256, .f32⟩
  | 108 => ⟨S_, .f32⟩
  | 109 => ⟨S16x128x256, .f32⟩
  | 110 => ⟨S16x128x256, .f32⟩
  | 111 => ⟨S_, .f32⟩
  | 112 => ⟨S16x128x256, .f32⟩
  | 113 => ⟨S16x128x256, .f32⟩
  | 114 => ⟨S16x128x128, .f32⟩
  | 115 => ⟨S16x128x128, .f32⟩
  | 116 => ⟨S16x128x128, .f32⟩
  | 117 => ⟨S16x128x192, .f32⟩
  | 118 => ⟨S1x16x128x128, .f32⟩
  | 119 => ⟨S16x128x128, .f32⟩
  | 120 => ⟨S16x128x192, .f32⟩
  | 121 => ⟨S16x128x192, .f32⟩
  | 122 => ⟨S_, .f32⟩
  | 123 => ⟨S16x128x192, .f32⟩
  | 124 => ⟨S16x128x192, .f32⟩
  | 125 => ⟨S16x128x192, .f32⟩
  | 126 => ⟨S1x16x128x128, .f32⟩
  | 127 => ⟨S16x128x128, .f32⟩
  | _ => ⟨S16x12x128x64, .f32⟩

abbrev hbmTy0_1 (i : Nat) : BufTy := match i % 128 with
  | 0 => ⟨S16x128x192, .f32⟩
  | 1 => ⟨S16x128x192, .f32⟩
  | 2 => ⟨S_, .f32⟩
  | 3 => ⟨S16x128x192, .f32⟩
  | 4 => ⟨S16x128x192, .f32⟩
  | 5 => ⟨S16x128x192, .f32⟩
  | 6 => ⟨S16x128x960, .f32⟩
  | 7 => ⟨S16x128x128, .f32⟩
  | 8 => ⟨S1x1x128, .f32⟩
  | 9 => ⟨S16x128x128, .f32⟩
  | 10 => ⟨S16x128x128, .f32⟩
  | 11 => ⟨S16x128x128, .f32⟩
  | 12 => ⟨S16x128x128, .f32⟩
  | 13 => ⟨S_, .f32⟩
  | 14 => ⟨S16x128x128, .f32⟩
  | 15 => ⟨S16x128x128, .f32⟩
  | 16 => ⟨S16x128x128, .f32⟩
  | 17 => ⟨S16x128x128, .f32⟩
  | 18 => ⟨S16x128x256, .f32⟩
  | 19 => ⟨S1x16x128x128, .f32⟩
  | 20 => ⟨S16x128x128, .f32⟩
  | 21 => ⟨S16x128x256, .f32⟩
  | 22 => ⟨S16x128x256, .f32⟩
  | 23 => ⟨S_, .f32⟩
  | 24 => ⟨S16x128x256, .f32⟩
  | 25 => ⟨S16x128x256, .f32⟩
  | 26 => ⟨S16x128x256, .f32⟩
  | 27 => ⟨S1x16x128x128, .f32⟩
  | 28 => ⟨S16x128x128, .f32⟩
  | 29 => ⟨S16x128x256, .f32⟩
  | 30 => ⟨S16x128x256, .f32⟩
  | 31 => ⟨S_, .f32⟩
  | 32 => ⟨S16x128x256, .f32⟩
  | 33 => ⟨S16x128x256, .f32⟩
  | 34 => ⟨S16x128x256, .f32⟩
  | 35 => ⟨S16x128x1280, .f32⟩
  | 36 => ⟨S16x128x256, .f32⟩
  | 37 => ⟨S1x1x256, .f32⟩
  | 38 => ⟨S16x128x256, .f32⟩
  | 39 => ⟨S16x128x256, .f32⟩
  | 40 => ⟨S16x128x256, .f32⟩
  | 41 => ⟨S16x128x256, .f32⟩
  | 42 => ⟨S_, .f32⟩
  | 43 => ⟨S16x128x256, .f32⟩
  | 44 => ⟨S16x128x256, .f32⟩
  | 45 => ⟨S_, .f32⟩
  | 46 => ⟨S16x128x256, .f32⟩
  | 47 => ⟨S16x128x256, .f32⟩
  | 48 => ⟨S16x128x128, .f32⟩
  | 49 => ⟨S16x128x128, .f32⟩
  | 50 => ⟨S16x128x128, .f32⟩
  | 51 => ⟨S16x128x256, .f32⟩
  | 52 => ⟨S1x16x128x128, .f32⟩
  | 53 => ⟨S16x128x128, .f32⟩
  | 54 => ⟨S16x128x256, .f32⟩
  | 55 => ⟨S16x128x256, .f32⟩
  | 56 => ⟨S_, .f32⟩
  | 57 => ⟨S16x128x256, .f32⟩
  | 58 => ⟨S16x128x256, .f32⟩
  | 59 => ⟨S16x128x256, .f32⟩
  | 60 => ⟨S1x16x128x128, .f32⟩
  | 61 => ⟨S16x128x128, .f32⟩
  | 62 => ⟨S16x128x256, .f32⟩
  | 63 => ⟨S16x128x256, .f32⟩
  | 64 => ⟨S_, .f32⟩
  | 65 => ⟨S16x128x256, .f32⟩
  | 66 => ⟨S16x128x256, .f32⟩
  | 67 => ⟨S16x128x256, .f32⟩
  | 68 => ⟨S16x128x1280, .f32⟩
  | 69 => ⟨S16x128x128, .f32⟩
  | 70 => ⟨S1x1x128, .f32⟩
  | 71 => ⟨S16x128x128, .f32⟩
  | 72 => ⟨S16x128x128, .f32⟩
  | 73 => ⟨S16x128x128, .f32⟩
  | 74 => ⟨S16x128x128, .f32⟩
  | 75 => ⟨S_, .f32⟩
  | 76 => ⟨S16x128x128, .f32⟩
  | 77 => ⟨S16x128x128, .f32⟩
  | 78 => ⟨S16x128x128, .f32⟩
  | 79 => ⟨S16x128x128, .f32⟩
  | 80 => ⟨S_, .i32⟩
  | 81 => ⟨S_, .i32⟩
  | 82 => ⟨S_, .f32⟩
  | 83 => ⟨S16x128x128, .f32⟩
  | 84 => ⟨S16x128x128, .f32⟩
  | 85 => ⟨S16x128x1, .f32⟩
  | 86 => ⟨S1x1x1, .f32⟩
  | 87 => ⟨S16x128x1, .f32⟩
  | 88 => ⟨S16x128x1, .f32⟩
  | 89 => ⟨S16x128, .f32⟩
  | 90 => ⟨S_, .f32⟩
  | 91 => ⟨S16, .f32⟩
  | 92 => ⟨S16x1x1, .f32⟩
  | 93 => ⟨S16x1x128, .f32⟩
  | _ => ⟨S16x12x128x64, .f32⟩

abbrev hbmTy (i : Nat) : BufTy := match i / 128 with
  | 0 => hbmTy0_0 i
  | 1 => hbmTy0_1 i
  | _ => ⟨S16x12x128x64, .f32⟩

abbrev bufTy : (tb : Table) → Fin (tcTables nBuf tb) → BufTy
  | .hbm, ⟨i, _⟩ => hbmTy i
  | _, _ => ⟨S16x12x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_c : Ref sig .tc := ⟨.hbm, 53, rfl⟩
abbrev main_c_6 : Ref sig .tc := ⟨.hbm, 54, rfl⟩
abbrev main_v33_0 : Ref sig .tc := ⟨.hbm, 55, rfl⟩
abbrev main_v33_1 : Ref sig .tc := ⟨.hbm, 56, rfl⟩
abbrev main_v33_2 : Ref sig .tc := ⟨.hbm, 57, rfl⟩
abbrev main_v33_3 : Ref sig .tc := ⟨.hbm, 58, rfl⟩
abbrev main_v33_4 : Ref sig .tc := ⟨.hbm, 59, rfl⟩
abbrev main_v33_5 : Ref sig .tc := ⟨.hbm, 60, rfl⟩
abbrev main_v33_6 : Ref sig .tc := ⟨.hbm, 61, rfl⟩
abbrev main_v33_7 : Ref sig .tc := ⟨.hbm, 62, rfl⟩
abbrev main_v33_8 : Ref sig .tc := ⟨.hbm, 63, rfl⟩
abbrev main_v33_9 : Ref sig .tc := ⟨.hbm, 64, rfl⟩
abbrev main_v33_10 : Ref sig .tc := ⟨.hbm, 65, rfl⟩
abbrev main_v33_11 : Ref sig .tc := ⟨.hbm, 66, rfl⟩
abbrev main_v33_12 : Ref sig .tc := ⟨.hbm, 67, rfl⟩
abbrev main_v33_13 : Ref sig .tc := ⟨.hbm, 68, rfl⟩
abbrev main_while0c_c_21 : Ref sig .tc := ⟨.hbm, 69, rfl⟩
abbrev main_while0c_v43 : Ref sig .tc := ⟨.hbm, 70, rfl⟩
abbrev main_while0b_c_21 : Ref sig .tc := ⟨.hbm, 71, rfl⟩
abbrev main_while0b_v43 : Ref sig .tc := ⟨.hbm, 72, rfl⟩
abbrev main_while0b_call1_c : Ref sig .tc := ⟨.hbm, 73, rfl⟩
abbrev main_while0b_call1_v0 : Ref sig .tc := ⟨.hbm, 74, rfl⟩
abbrev main_while0b_call1_v1 : Ref sig .tc := ⟨.hbm, 75, rfl⟩
abbrev main_while0b_call1_c_0 : Ref sig .tc := ⟨.hbm, 76, rfl⟩
abbrev main_while0b_call1_v2 : Ref sig .tc := ⟨.hbm, 77, rfl⟩
abbrev main_while0b_call1_v3 : Ref sig .tc := ⟨.hbm, 78, rfl⟩
abbrev main_while0b_call1_c_1 : Ref sig .tc := ⟨.hbm, 79, rfl⟩
abbrev main_while0b_call1_c_2 : Ref sig .tc := ⟨.hbm, 80, rfl⟩
abbrev main_while0b_call1_c_3 : Ref sig .tc := ⟨.hbm, 81, rfl⟩
abbrev main_while0b_call1_v4 : Ref sig .tc := ⟨.hbm, 82, rfl⟩
abbrev main_while0b_v44 : Ref sig .tc := ⟨.hbm, 83, rfl⟩
abbrev main_while0b_v45 : Ref sig .tc := ⟨.hbm, 84, rfl⟩
abbrev main_while0b_v46 : Ref sig .tc := ⟨.hbm, 85, rfl⟩
abbrev main_while0b_v47 : Ref sig .tc := ⟨.hbm, 86, rfl⟩
abbrev main_while0b_v48 : Ref sig .tc := ⟨.hbm, 87, rfl⟩
abbrev main_while0b_v49 : Ref sig .tc := ⟨.hbm, 88, rfl⟩
abbrev main_while0b_cst_22 : Ref sig .tc := ⟨.hbm, 89, rfl⟩
abbrev main_while0b_v50 : Ref sig .tc := ⟨.hbm, 90, rfl⟩
abbrev main_while0b_v51 : Ref sig .tc := ⟨.hbm, 91, rfl⟩
abbrev main_while0b_v52 : Ref sig .tc := ⟨.hbm, 92, rfl⟩
abbrev main_while0b_v53 : Ref sig .tc := ⟨.hbm, 93, rfl⟩
abbrev main_while0b_v54 : Ref sig .tc := ⟨.hbm, 94, rfl⟩
abbrev main_while0b_v55 : Ref sig .tc := ⟨.hbm, 95, rfl⟩
abbrev main_while0b_v56 : Ref sig .tc := ⟨.hbm, 96, rfl⟩
abbrev main_while0b_cst_23 : Ref sig .tc := ⟨.hbm, 97, rfl⟩
abbrev main_while0b_v57 : Ref sig .tc := ⟨.hbm, 98, rfl⟩
abbrev main_while0b_v58 : Ref sig .tc := ⟨.hbm, 99, rfl⟩
abbrev main_while0b_v59 : Ref sig .tc := ⟨.hbm, 100, rfl⟩
abbrev main_while0b_v60 : Ref sig .tc := ⟨.hbm, 101, rfl⟩
abbrev main_while0b_v61 : Ref sig .tc := ⟨.hbm, 102, rfl⟩
abbrev main_while0b_v62 : Ref sig .tc := ⟨.hbm, 103, rfl⟩
abbrev main_while0b_v63 : Ref sig .tc := ⟨.hbm, 104, rfl⟩
abbrev main_while0b_v64 : Ref sig .tc := ⟨.hbm, 105, rfl⟩
abbrev main_while0b_v65 : Ref sig .tc := ⟨.hbm, 106, rfl⟩
abbrev main_while0b_v66 : Ref sig .tc := ⟨.hbm, 107, rfl⟩
abbrev main_while0b_cst_24 : Ref sig .tc := ⟨.hbm, 108, rfl⟩
abbrev main_while0b_v67 : Ref sig .tc := ⟨.hbm, 109, rfl⟩
abbrev main_while0b_v68 : Ref sig .tc := ⟨.hbm, 110, rfl⟩
abbrev main_while0b_cst_25 : Ref sig .tc := ⟨.hbm, 111, rfl⟩
abbrev main_while0b_v69 : Ref sig .tc := ⟨.hbm, 112, rfl⟩
abbrev main_while0b_v70 : Ref sig .tc := ⟨.hbm, 113, rfl⟩
abbrev main_while0b_v71 : Ref sig .tc := ⟨.hbm, 114, rfl⟩
abbrev main_while0b_v72 : Ref sig .tc := ⟨.hbm, 115, rfl⟩
abbrev main_while0b_v73 : Ref sig .tc := ⟨.hbm, 116, rfl⟩
abbrev main_while0b_v74 : Ref sig .tc := ⟨.hbm, 117, rfl⟩
abbrev main_while0b_v75 : Ref sig .tc := ⟨.hbm, 118, rfl⟩
abbrev main_while0b_v76 : Ref sig .tc := ⟨.hbm, 119, rfl⟩
abbrev main_while0b_v77 : Ref sig .tc := ⟨.hbm, 120, rfl⟩
abbrev main_while0b_v78 : Ref sig .tc := ⟨.hbm, 121, rfl⟩
abbrev main_while0b_cst_26 : Ref sig .tc := ⟨.hbm, 122, rfl⟩
abbrev main_while0b_v79 : Ref sig .tc := ⟨.hbm, 123, rfl⟩
abbrev main_while0b_v80 : Ref sig .tc := ⟨.hbm, 124, rfl⟩
abbrev main_while0b_v81 : Ref sig .tc := ⟨.hbm, 125, rfl⟩
abbrev main_while0b_v82 : Ref sig .tc := ⟨.hbm, 126, rfl⟩
abbrev main_while0b_v83 : Ref sig .tc := ⟨.hbm, 127, rfl⟩
abbrev main_while0b_v84 : Ref sig .tc := ⟨.hbm, 128, rfl⟩
abbrev main_while0b_v85 : Ref sig .tc := ⟨.hbm, 129, rfl⟩
abbrev main_while0b_cst_27 : Ref sig .tc := ⟨.hbm, 130, rfl⟩
abbrev main_while0b_v86 : Ref sig .tc := ⟨.hbm, 131, rfl⟩
abbrev main_while0b_v87 : Ref sig .tc := ⟨.hbm, 132, rfl⟩
abbrev main_while0b_v88 : Ref sig .tc := ⟨.hbm, 133, rfl⟩
abbrev main_while0b_v89 : Ref sig .tc := ⟨.hbm, 134, rfl⟩
abbrev main_while0b_v90 : Ref sig .tc := ⟨.hbm, 135, rfl⟩
abbrev main_while0b_v91 : Ref sig .tc := ⟨.hbm, 136, rfl⟩
abbrev main_while0b_v92 : Ref sig .tc := ⟨.hbm, 137, rfl⟩
abbrev main_while0b_v93 : Ref sig .tc := ⟨.hbm, 138, rfl⟩
abbrev main_while0b_v94 : Ref sig .tc := ⟨.hbm, 139, rfl⟩
abbrev main_while0b_v95 : Ref sig .tc := ⟨.hbm, 140, rfl⟩
abbrev main_while0b_cst_28 : Ref sig .tc := ⟨.hbm, 141, rfl⟩
abbrev main_while0b_v96 : Ref sig .tc := ⟨.hbm, 142, rfl⟩
abbrev main_while0b_v97 : Ref sig .tc := ⟨.hbm, 143, rfl⟩
abbrev main_while0b_v98 : Ref sig .tc := ⟨.hbm, 144, rfl⟩
abbrev main_while0b_v99 : Ref sig .tc := ⟨.hbm, 145, rfl⟩
abbrev main_while0b_v100 : Ref sig .tc := ⟨.hbm, 146, rfl⟩
abbrev main_while0b_v101 : Ref sig .tc := ⟨.hbm, 147, rfl⟩
abbrev main_while0b_v102 : Ref sig .tc := ⟨.hbm, 148, rfl⟩
abbrev main_while0b_v103 : Ref sig .tc := ⟨.hbm, 149, rfl⟩
abbrev main_while0b_v104 : Ref sig .tc := ⟨.hbm, 150, rfl⟩
abbrev main_while0b_cst_29 : Ref sig .tc := ⟨.hbm, 151, rfl⟩
abbrev main_while0b_v105 : Ref sig .tc := ⟨.hbm, 152, rfl⟩
abbrev main_while0b_v106 : Ref sig .tc := ⟨.hbm, 153, rfl⟩
abbrev main_while0b_v107 : Ref sig .tc := ⟨.hbm, 154, rfl⟩
abbrev main_while0b_v108 : Ref sig .tc := ⟨.hbm, 155, rfl⟩
abbrev main_while0b_v109 : Ref sig .tc := ⟨.hbm, 156, rfl⟩
abbrev main_while0b_v110 : Ref sig .tc := ⟨.hbm, 157, rfl⟩
abbrev main_while0b_v111 : Ref sig .tc := ⟨.hbm, 158, rfl⟩
abbrev main_while0b_cst_30 : Ref sig .tc := ⟨.hbm, 159, rfl⟩
abbrev main_while0b_v112 : Ref sig .tc := ⟨.hbm, 160, rfl⟩
abbrev main_while0b_v113 : Ref sig .tc := ⟨.hbm, 161, rfl⟩
abbrev main_while0b_v114 : Ref sig .tc := ⟨.hbm, 162, rfl⟩
abbrev main_while0b_v115 : Ref sig .tc := ⟨.hbm, 163, rfl⟩
abbrev main_while0b_v116 : Ref sig .tc := ⟨.hbm, 164, rfl⟩
abbrev main_while0b_v117 : Ref sig .tc := ⟨.hbm, 165, rfl⟩
abbrev main_while0b_v118 : Ref sig .tc := ⟨.hbm, 166, rfl⟩
abbrev main_while0b_v119 : Ref sig .tc := ⟨.hbm, 167, rfl⟩
abbrev main_while0b_v120 : Ref sig .tc := ⟨.hbm, 168, rfl⟩
abbrev main_while0b_v121 : Ref sig .tc := ⟨.hbm, 169, rfl⟩
abbrev main_while0b_cst_31 : Ref sig .tc := ⟨.hbm, 170, rfl⟩
abbrev main_while0b_v122 : Ref sig .tc := ⟨.hbm, 171, rfl⟩
abbrev main_while0b_v123 : Ref sig .tc := ⟨.hbm, 172, rfl⟩
abbrev main_while0b_cst_32 : Ref sig .tc := ⟨.hbm, 173, rfl⟩
abbrev main_while0b_v124 : Ref sig .tc := ⟨.hbm, 174, rfl⟩
abbrev main_while0b_v125 : Ref sig .tc := ⟨.hbm, 175, rfl⟩
abbrev main_while0b_v126 : Ref sig .tc := ⟨.hbm, 176, rfl⟩
abbrev main_while0b_v127 : Ref sig .tc := ⟨.hbm, 177, rfl⟩
abbrev main_while0b_v128 : Ref sig .tc := ⟨.hbm, 178, rfl⟩
abbrev main_while0b_v129 : Ref sig .tc := ⟨.hbm, 179, rfl⟩
abbrev main_while0b_v130 : Ref sig .tc := ⟨.hbm, 180, rfl⟩
abbrev main_while0b_v131 : Ref sig .tc := ⟨.hbm, 181, rfl⟩
abbrev main_while0b_v132 : Ref sig .tc := ⟨.hbm, 182, rfl⟩
abbrev main_while0b_v133 : Ref sig .tc := ⟨.hbm, 183, rfl⟩
abbrev main_while0b_cst_33 : Ref sig .tc := ⟨.hbm, 184, rfl⟩
abbrev main_while0b_v134 : Ref sig .tc := ⟨.hbm, 185, rfl⟩
abbrev main_while0b_v135 : Ref sig .tc := ⟨.hbm, 186, rfl⟩
abbrev main_while0b_v136 : Ref sig .tc := ⟨.hbm, 187, rfl⟩
abbrev main_while0b_v137 : Ref sig .tc := ⟨.hbm, 188, rfl⟩
abbrev main_while0b_v138 : Ref sig .tc := ⟨.hbm, 189, rfl⟩
abbrev main_while0b_v139 : Ref sig .tc := ⟨.hbm, 190, rfl⟩
abbrev main_while0b_v140 : Ref sig .tc := ⟨.hbm, 191, rfl⟩
abbrev main_while0b_cst_34 : Ref sig .tc := ⟨.hbm, 192, rfl⟩
abbrev main_while0b_v141 : Ref sig .tc := ⟨.hbm, 193, rfl⟩
abbrev main_while0b_v142 : Ref sig .tc := ⟨.hbm, 194, rfl⟩
abbrev main_while0b_v143 : Ref sig .tc := ⟨.hbm, 195, rfl⟩
abbrev main_while0b_v144 : Ref sig .tc := ⟨.hbm, 196, rfl⟩
abbrev main_while0b_v145 : Ref sig .tc := ⟨.hbm, 197, rfl⟩
abbrev main_while0b_v146 : Ref sig .tc := ⟨.hbm, 198, rfl⟩
abbrev main_while0b_v147 : Ref sig .tc := ⟨.hbm, 199, rfl⟩
abbrev main_while0b_v148 : Ref sig .tc := ⟨.hbm, 200, rfl⟩
abbrev main_while0b_v149 : Ref sig .tc := ⟨.hbm, 201, rfl⟩
abbrev main_while0b_v150 : Ref sig .tc := ⟨.hbm, 202, rfl⟩
abbrev main_while0b_cst_35 : Ref sig .tc := ⟨.hbm, 203, rfl⟩
abbrev main_while0b_v151 : Ref sig .tc := ⟨.hbm, 204, rfl⟩
abbrev main_while0b_v152 : Ref sig .tc := ⟨.hbm, 205, rfl⟩
abbrev main_while0b_v153 : Ref sig .tc := ⟨.hbm, 206, rfl⟩
abbrev main_while0b_v154 : Ref sig .tc := ⟨.hbm, 207, rfl⟩
abbrev main_while0b_c_36 : Ref sig .tc := ⟨.hbm, 208, rfl⟩
abbrev main_while0b_v155 : Ref sig .tc := ⟨.hbm, 209, rfl⟩
abbrev main_call2_cst : Ref sig .tc := ⟨.hbm, 210, rfl⟩
abbrev main_call2_v0 : Ref sig .tc := ⟨.hbm, 211, rfl⟩
abbrev main_v34 : Ref sig .tc := ⟨.hbm, 212, rfl⟩
abbrev main_v35 : Ref sig .tc := ⟨.hbm, 213, rfl⟩
abbrev main_v36 : Ref sig .tc := ⟨.hbm, 214, rfl⟩
abbrev main_v37 : Ref sig .tc := ⟨.hbm, 215, rfl⟩
abbrev main_v38 : Ref sig .tc := ⟨.hbm, 216, rfl⟩
abbrev main_v39 : Ref sig .tc := ⟨.hbm, 217, rfl⟩
abbrev main_cst_7 : Ref sig .tc := ⟨.hbm, 218, rfl⟩
abbrev main_v40 : Ref sig .tc := ⟨.hbm, 219, rfl⟩
abbrev main_v41 : Ref sig .tc := ⟨.hbm, 220, rfl⟩
abbrev main_v42 : Ref sig .tc := ⟨.hbm, 221, rfl⟩

abbrev nD : Nat := 1
abbrev τ : Topo := Topo.v7x

variable {F : FTy → Type} [FloatOps F]

abbrev main_while0_count : Scf.Loop 32 := ⟨0#32, 12#32, 1#32⟩
-- ==== Proof.Spec.lean ====
module

public import Idealize.ShloMosaic.Lib.Pointwise

/-! The recurrent cell over the extended reals, one batch row at a time: the diffusion of a signal over
    the nodes by two supports, the gates, the next state, the readout. Both programs are read as this. -/

@[expose] public section

noncomputable section

namespace Cert.Spec

open Idealize.ShloMosaic

/-- One number for each pair of nodes, or for each node and feature. -/
abbrev Mat := Fin 128 → Fin 128 → EReal

/-- The number is neither infinity. -/
def Fin' (x : EReal) : Prop := ∃ r : ℝ, x = r

/-- The number two as the programs write it. -/
def two : EReal := Ideal.ofBits .f32 0x40000000#32

/-- The diffusions of a signal: itself, then the first and second order of either support. -/
def dif (A B : Mat) : Fin 5 → (Fin 128 → EReal) → Fin 128 → EReal
  | 0, y, n => y n
  | 1, y, n => ∑ j, A n j * y j
  | 2, y, n => two * (∑ k, A n k * ∑ j, A k j * y j) - y n
  | 3, y, n => ∑ j, B n j * y j
  | 4, y, n => two * (∑ k, B n k * ∑ j, B k j * y j) - y n

/-- A gate before its nonlinearity: the diffused inputs and the diffused state against the weights. -/
def pre {D : ℕ} (A B : Mat) (w : Fin 5 → Fin D → EReal) (v : Fin 5 → Fin 128 → EReal) (b : EReal)
    (x : Fin 128 → Fin D → EReal) (h : Mat) (n : Fin 128) : EReal :=
  (∑ m, (∑ c, dif A B m (fun j => x j c) n * w m c + ∑ f, dif A B m (fun j => h j f) n * v m f)) + b

/-- The weights of a cell with `D` inputs: for each output and each diffusion, those of the inputs and those of the state. -/
structure Cell (D : ℕ) where
  wg : Fin 256 → Fin 5 → Fin D → EReal
  vg : Fin 256 → Fin 5 → Fin 128 → EReal
  bg : Fin 256 → EReal
  wc : Fin 128 → Fin 5 → Fin D → EReal
  vc : Fin 128 → Fin 5 → Fin 128 → EReal
  bc : Fin 128 → EReal

variable {D : ℕ} (p : Cell D) (A B : Mat) (x : Fin 128 → Fin D → EReal) (h : Mat)

/-- A gate. -/
def Cell.gate (o : Fin 256) (n : Fin 128) : EReal := Ideal.logistic (pre A B (p.wg o) (p.vg o) (p.bg o) x h n)

/-- The reset gate's and the update gate's places among the gates. -/
def lo (f : Fin 128) : Fin 256 := ⟨f, by omega⟩
def hi (f : Fin 128) : Fin 256 := ⟨128 + f, by omega⟩

/-- The reset state. -/
def Cell.reset : Mat := fun n f => p.gate A B x h (lo f) n * h n f

/-- The candidate state, from the reset state. -/
def Cell.cand (rh : Mat) : Mat := fun n f => Ideal.tanh (pre A B (p.wc f) (p.vc f) (p.bc f) x rh n)

/-- The next state. -/
def Cell.next : Mat := fun n f =>
  p.gate A B x h (hi f) n * h n f + (1 - p.gate A B x h (hi f) n) * p.cand A B x (p.reset A B x h) n f

/-- One time step of the two layers: the second reads the first's next state. -/
def step (p : Cell 64) (q : Cell 128) (A B : Mat) (x : Fin 128 → Fin 64 → EReal) (s : Mat × Mat) : Mat × Mat :=
  (p.next A B x s.1, q.next A B (p.next A B x s.1) s.2)

/-- The states after `t` time steps, from zero. -/
def states (p : Cell 64) (q : Cell 128) (A B : Mat) (x : ℕ → Fin 128 → Fin 64 → EReal) : ℕ → Mat × Mat
  | 0 => (fun _ _ => 0, fun _ _ => 0)
  | t + 1 => step p q A B (x t) (states p q A B x t)

/-- The greatest readout of a batch row's nodes. -/
def best (h : Mat) (w : Fin 128 → EReal) (b : EReal) : EReal :=
  Finset.univ.fold max (Ideal.ofBits .f32 0xFF800000#32) fun n => ∑ f, max (h n f) 0 * w f + b

/-! ### Real numbers stay real -/

theorem Fin'.coe (r : ℝ) : Fin' (r : EReal) := ⟨r, rfl⟩
theorem Fin'.zero : Fin' 0 := ⟨0, rfl⟩
theorem Fin'.one : Fin' 1 := ⟨1, rfl⟩
theorem Fin'.add {a b : EReal} : Fin' a → Fin' b → Fin' (a + b) := by
  rintro ⟨r, rfl⟩ ⟨s, rfl⟩; exact ⟨r + s, by rw [EReal.coe_add]⟩
theorem Fin'.sub {a b : EReal} : Fin' a → Fin' b → Fin' (a - b) := by
  rintro ⟨r, rfl⟩ ⟨s, rfl⟩; exact ⟨r - s, by rw [EReal.coe_sub]⟩
theorem Fin'.mul {a b : EReal} : Fin' a → Fin' b → Fin' (a * b) := by
  rintro ⟨r, rfl⟩ ⟨s, rfl⟩; exact ⟨r * s, by rw [EReal.coe_mul]⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.sum {ι : Type*} {s : Finset ι} {f : ι → EReal} (hf : ∀ i, Fin' (f i)) : Fin' (∑ i ∈ s, f i) := by
  choose g hg using hf
  exact ⟨∑ i ∈ s, g i, by rw [coe_sum]; exact Finset.sum_congr rfl fun i _ => hg i⟩

theorem fin_logistic (x : EReal) : Fin' (Ideal.logistic x) := by
  induction x using EReal.rec with
  | bot => rw [Ideal.logistic_bot]; exact Fin'.zero
  | top => rw [Ideal.logistic_top]; exact Fin'.one
  | coe r => rw [Ideal.logistic_coe]; exact Fin'.coe _

theorem fin_tanh (x : EReal) : Fin' (Ideal.tanh x) := by
  induction x using EReal.rec with
  | bot => exact ⟨-1, rfl⟩
  | top => exact ⟨1, rfl⟩
  | coe r => exact ⟨Real.tanh r, rfl⟩

theorem fin_reset (hh : ∀ n f, Fin' (h n f)) (n f) : Fin' (p.reset A B x h n f) := (fin_logistic _).mul (hh n f)

theorem fin_next (hh : ∀ n f, Fin' (h n f)) (n f) : Fin' (p.next A B x h n f) :=
  ((fin_logistic _).mul (hh n f)).add ((Fin'.one.sub (fin_logistic _)).mul (fin_tanh _))

theorem two_eq : two = ((2 : ℝ) : EReal) := by
  rw [two]
  simp [Ideal.ofBits, Ideal.ieee, -EReal.coe_mul]; norm_num

/-! ### The second order of a support, applied whole or one factor after the other -/

theorem second_order {A : Mat} {y : Fin 128 → EReal} (hA : ∀ i j, Fin' (A i j)) (hy : ∀ j, Fin' (y j)) (n : Fin 128) :
    ∑ j, y j * ((∑ k, A k j * A n k) * two - if j = n then 1 else 0) = two * (∑ k, A n k * ∑ j, A k j * y j) - y n := by
  choose a ha using hA
  choose z hz using hy
  obtain rfl : A = fun i j => (a i j : EReal) := funext fun i => funext fun j => ha i j
  obtain rfl : y = fun j => (z j : EReal) := funext hz
  have e : ∀ j : Fin 128, (if j = n then (1 : EReal) else 0) = ((if j = n then 1 else 0 : ℝ) : EReal) := by
    intro j; split <;> rfl
  simp only [two_eq, e, ← EReal.coe_mul, ← coe_sum, ← EReal.coe_sub]
  rw [EReal.coe_eq_coe_iff]
  simp only [mul_sub, Finset.sum_sub_distrib, mul_ite, mul_one, mul_zero, Finset.sum_ite_eq', Finset.mem_univ, if_true]
  congr 1
  simp only [Finset.mul_sum, Finset.sum_mul]
  rw [Finset.sum_comm]
  exact Finset.sum_congr rfl fun k _ => Finset.sum_congr rfl fun j _ => by ring

/-! ### Sums over rows in blocks -/

/-- The `c`-th row of the `m`-th block of `n` rows. -/
def row {a : ℕ} (n : ℕ) (m : Fin a) (c : Fin n) : Fin (a * n) :=
  ⟨n * m + c, by
    have := Nat.mul_le_mul_left n (Nat.succ_le_of_lt m.isLt)
    have := c.isLt
    rw [Nat.mul_succ] at *
    rw [Nat.mul_comm a n]; omega⟩

theorem sum_row {a n : ℕ} (f : Fin (a * n) → EReal) : ∑ q, f q = ∑ m : Fin a, ∑ c : Fin n, f (row n m c) := by
  rw [← Fintype.sum_prod_type' (f := fun m c => f (row n m c))]
  refine (Fintype.sum_equiv finProdFinEquiv _ _ fun q => ?_).symm
  congr 1
  ext
  simp [row, finProdFinEquiv, Nat.add_comm]

/-- The first rows, and the rows past them. -/
def left {a b : ℕ} (c : Fin a) : Fin (a + b) := ⟨c, by omega⟩
def right {a b : ℕ} (c : Fin b) : Fin (a + b) := ⟨a + c, by omega⟩

theorem sum_left_right {a b : ℕ} (f : Fin (a + b) → EReal) : ∑ q, f q = ∑ c : Fin a, f (left c) + ∑ c : Fin b, f (right c) :=
  Fin.sum_univ_add f

end Cert.Spec
-- ==== Proof.Corr.lean ====
module

public import proofs.«01_k».proof.Proof.Spec

/-! The supports of a batch row's series: the absolute correlations of the nodes, divided by their row sums and
    by their column sums. Where every node's series is real and takes two values, no divisor is zero and the
    supports are real. -/

@[expose] public section

noncomputable section

namespace Cert.Spec

open Idealize.ShloMosaic

/-- The least sum of squares, as the programs write it. -/
def least : EReal := Ideal.ofBits .f32 0x2B8CBCCC#32

section Defs

variable (v : Fin 768 → Fin 128 → EReal)

/-- The series less its mean. -/
def cen (r : Fin 768) (n : Fin 128) : EReal := v r n - (∑ x, v x n) * ((768⁻¹ : ℝ) : EReal)

/-- The root of a node's sum of squares. -/
def dev (n : Fin 128) : EReal := Ideal.sqrt (max (∑ x, cen v x n * cen v x n) least)

/-- The sum of products of two nodes' series. -/
def cov (k n : Fin 128) : EReal := ∑ x, cen v x k * cen v x n

/-- The absolute correlation of two nodes. -/
def cor (k n : Fin 128) : EReal := Ideal.div (max (cov v k n) (-cov v k n)) (dev v k * dev v n)

/-- The first support. -/
def supA : Mat := fun n j => Ideal.div (cor v n j) (∑ k, cor v n k)

/-- The second support. -/
def supB : Mat := fun n j => Ideal.div (cor v j n) (∑ k, cor v k n)

end Defs

/-- Every node's series is real and takes two values. -/
structure Varied (v : Fin 768 → Fin 128 → EReal) : Prop where
  real : ∀ r n, Fin' (v r n)
  two : ∀ n, ∃ r r', v r n ≠ v r' n

/-- A positive real number. -/
def Pos (x : EReal) : Prop := ∃ r : ℝ, 0 < r ∧ x = r

theorem Pos.fin {x : EReal} : Pos x → Fin' x := fun ⟨r, _, h⟩ => ⟨r, h⟩

theorem Pos.mul {x y : EReal} : Pos x → Pos y → Pos (x * y) := by
  rintro ⟨r, hr, rfl⟩ ⟨s, hs, rfl⟩
  exact ⟨r * s, mul_pos hr hs, by rw [EReal.coe_mul]⟩

theorem div_real {a r : ℝ} (hr : 0 < r) : Ideal.div a r = ((a / r : ℝ) : EReal) := by
  rw [Ideal.div_coe hr.ne', ← EReal.coe_mul, mul_one_div]

theorem Fin'.div {x y : EReal} : Fin' x → Pos y → Fin' (Ideal.div x y) := by
  rintro ⟨a, rfl⟩ ⟨r, hr, rfl⟩
  exact ⟨a / r, div_real hr⟩

/-- A real number that is not negative. -/
def Nonneg (x : EReal) : Prop := ∃ r : ℝ, 0 ≤ r ∧ x = r

theorem Nonneg.fin {x : EReal} : Nonneg x → Fin' x := fun ⟨r, _, h⟩ => ⟨r, h⟩

theorem Nonneg.div {x y : EReal} : Nonneg x → Pos y → Nonneg (Ideal.div x y) := by
  rintro ⟨a, ha, rfl⟩ ⟨r, hr, rfl⟩
  exact ⟨a / r, div_nonneg ha hr.le, div_real hr⟩

theorem Pos.div {x y : EReal} : Pos x → Pos y → Pos (Ideal.div x y) := by
  rintro ⟨a, ha, rfl⟩ ⟨r, hr, rfl⟩
  exact ⟨a / r, div_pos ha hr, div_real hr⟩

theorem coe_max (a b : ℝ) : ((max a b : ℝ) : EReal) = max (a : EReal) b := EReal.coe_strictMono.monotone.map_max

theorem abs_nonneg {x : EReal} : Fin' x → Nonneg (max x (-x)) := by
  rintro ⟨a, rfl⟩
  exact ⟨|a|, _root_.abs_nonneg a, by rw [← EReal.coe_neg, ← coe_max, ← abs_eq_max_neg]⟩

/-- A sum of numbers that are not negative, one of them positive. -/
theorem pos_sum {ι : Type*} [Fintype ι] {f : ι → EReal} (hf : ∀ i, Nonneg (f i)) (i : ι) (hi : Pos (f i)) : Pos (∑ i, f i) := by
  choose g hg e using hf
  obtain ⟨r, hr, er⟩ := hi
  refine ⟨∑ i, g i, Finset.sum_pos' (fun j _ => hg j) ⟨i, Finset.mem_univ i, ?_⟩, ?_⟩
  · have h : ((g i : ℝ) : EReal) = r := (e i).symm.trans er
    rwa [EReal.coe_eq_coe_iff.mp h]
  · rw [coe_sum]; exact Finset.sum_congr rfl fun j _ => e j

theorem fin_least : Fin' least := by
  rw [least]
  simp [Ideal.ofBits, Ideal.ieee, -EReal.coe_mul]
  exact ⟨_, rfl⟩

variable {v : Fin 768 → Fin 128 → EReal}

theorem fin_cen (hv : ∀ r n, Fin' (v r n)) (r : Fin 768) (n : Fin 128) : Fin' (cen v r n) :=
  (hv r n).sub ((Fin'.sum fun x => hv x n).mul (.coe _))

theorem square_nonneg {x : EReal} : Fin' x → Nonneg (x * x) := by
  rintro ⟨a, rfl⟩
  exact ⟨a * a, mul_self_nonneg a, by rw [EReal.coe_mul]⟩

/-- A node's sum of squares is positive. -/
theorem pos_square (H : Varied v) (n : Fin 128) : Pos (cov v n n) := by
  have hs : ∃ r, cen v r n ≠ 0 := by
    by_contra h
    push Not at h
    obtain ⟨r, r', hne⟩ := H.two n
    choose u hu using H.real
    obtain ⟨m, hm⟩ : Fin' ((∑ x, v x n) * ((768⁻¹ : ℝ) : EReal)) := (Fin'.sum fun x => H.real x n).mul (.coe _)
    have e : ∀ r, v r n = m := by
      intro r
      have hr := h r
      rw [cen, hm, hu, ← EReal.coe_sub, EReal.coe_eq_zero, sub_eq_zero] at hr
      rw [hu, hr]
    exact hne ((e r).trans (e r').symm)
  obtain ⟨r, hr⟩ := hs
  refine pos_sum (fun x => square_nonneg (fin_cen H.real x n)) r ?_
  obtain ⟨a, ha⟩ := fin_cen H.real r n
  refine ⟨a * a, mul_self_pos.mpr fun h0 => hr ?_, by rw [ha, EReal.coe_mul]⟩
  rw [ha, h0, EReal.coe_zero]

theorem pos_dev (H : Varied v) (n : Fin 128) : Pos (dev v n) := by
  obtain ⟨s, hs, es⟩ := pos_square H n
  obtain ⟨e, he⟩ := fin_least
  have hp : 0 < max s e := lt_max_of_lt_left hs
  refine ⟨Real.sqrt (max s e), Real.sqrt_pos.mpr hp, ?_⟩
  have h1 : dev v n = Ideal.sqrt (max (cov v n n) least) := rfl
  rw [h1, es, he, ← coe_max, Ideal.sqrt_coe, if_neg hp.not_gt]

theorem fin_cov (H : Varied v) (k n : Fin 128) : Fin' (cov v k n) :=
  Fin'.sum fun x => (fin_cen H.real x k).mul (fin_cen H.real x n)

theorem nonneg_cor (H : Varied v) (k n : Fin 128) : Nonneg (cor v k n) :=
  (abs_nonneg (fin_cov H k n)).div ((pos_dev H k).mul (pos_dev H n))

theorem pos_cor (H : Varied v) (n : Fin 128) : Pos (cor v n n) := by
  refine Pos.div ?_ ((pos_dev H n).mul (pos_dev H n))
  obtain ⟨s, hs, es⟩ := pos_square H n
  exact ⟨s, hs, by rw [es, ← EReal.coe_neg, ← coe_max, max_eq_left (by linarith)]⟩

theorem fin_supA (H : Varied v) (n j : Fin 128) : Fin' (supA v n j) :=
  (nonneg_cor H n j).fin.div (pos_sum (fun k => nonneg_cor H n k) n (pos_cor H n))

theorem fin_supB (H : Varied v) (n j : Fin 128) : Fin' (supB v n j) :=
  (nonneg_cor H j n).fin.div (pos_sum (fun k => nonneg_cor H k n) n (pos_cor H n))

/-- The absolute value taken after the division. -/
theorem cor_eq (H : Varied v) (k n : Fin 128) :
    max (Ideal.div (cov v k n) (dev v k * dev v n)) (-Ideal.div (cov v k n) (dev v k * dev v n)) = cor v k n := by
  obtain ⟨a, ha⟩ := fin_cov H k n
  obtain ⟨r, hr, er⟩ := (pos_dev H k).mul (pos_dev H n)
  rw [cor, ha, er, div_real hr, ← EReal.coe_neg, ← EReal.coe_neg, ← coe_max, ← coe_max, div_real hr,
    ← abs_eq_max_neg, ← abs_eq_max_neg, abs_div, abs_of_pos hr]

end Cert.Spec
-- ==== Proof.RefStack.lean ====
module

public import proofs.«01_k».proof.Proof.Spec
public import proofs.«01_k».proof.Proof.Gen.ReferenceIdeal.StepRun
public import Idealize.ShloMosaic.Lib.Pointwise
public import Idealize.ShloMosaic.Lib.Pointwise.IndexVar
public import Idealize.ShloMosaic.Lib.Pipeline.Value
public import Idealize.ShloMosaic.Lib.Tactic.CleanTypes

/-! The reference's stack of diffusions: inputs and state side by side, then their diffusions by either support,
    all five one after the other. Read at an index, at any width. -/

@[expose] public section

set_option synthInstance.maxSize 4096

noncomputable section

namespace Cert.ReferenceIdeal.Cells

open Idealize.ShloMosaic Cert.Spec Cert.ReferenceIdeal Cert.ReferenceIdeal.Step

/-- Sixteen batch rows of 128 nodes with `w` features each. -/
abbrev B (w : ℕ) := FVec Ideal ⟨3, ![16, 128, w]⟩ .f32

/-- Both supports of all batch rows. -/
abbrev Supports := FVec Ideal S2x16x128x128 .f32

/-- One support of one batch row. -/
def sup (T : Supports) (s : Fin 2) (i : Fin 16) : Mat := fun n j => T (ix4 s i n j)

/-- One batch row. -/
def at3 {w : ℕ} (V : B w) (i : Fin 16) (n : Fin 128) (q : Fin w) : EReal := V (ix3 i n q)

/-- Two arrays side by side along the features. -/
theorem at3_pair {a b : ℕ} (u : B a) (v : B b)
    (h : Shape.Concatenates [⟨3, ![16, 128, a]⟩, ⟨3, ![16, 128, b]⟩] ⟨3, ![16, 128, a + b]⟩ 2) (i : Fin 16) (n : Fin 128) :
    (∀ c : Fin a, at3 (w := a + b) (concatenate ⟨3, ![16, 128, a + b]⟩ 2 [⟨⟨3, ![16, 128, a]⟩, u⟩, ⟨⟨3, ![16, 128, b]⟩, v⟩] h) i n (left c) = at3 u i n c)
    ∧ ∀ c : Fin b, at3 (w := a + b) (concatenate ⟨3, ![16, 128, a + b]⟩ 2 [⟨⟨3, ![16, 128, a]⟩, u⟩, ⟨⟨3, ![16, 128, b]⟩, v⟩] h) i n (right c) = at3 v i n c := by
  unfold at3
  refine ⟨fun c => ?_, fun c => ?_⟩
  · refine concatenate_pair_apply_left (t := ⟨3, ![16, 128, a + b]⟩) (s₁ := ⟨3, ![16, 128, a]⟩) (s₂ := ⟨3, ![16, 128, b]⟩) 2 u v h
      (ix3 i n (left c)) rfl (ix3 i n c) fun e => ?_
    match e with
    | ⟨0, _⟩ => rfl
    | ⟨1, _⟩ => rfl
    | ⟨2, _⟩ => rfl
  · refine concatenate_pair_apply_right (t := ⟨3, ![16, 128, a + b]⟩) (s₁ := ⟨3, ![16, 128, a]⟩) (s₂ := ⟨3, ![16, 128, b]⟩) 2 u v h
      (ix3 i n (right c)) rfl rfl (ix3 i n c) (fun e he => ?_) (Nat.add_comm _ _)
    match e with
    | ⟨0, _⟩ => rfl
    | ⟨1, _⟩ => rfl
    | ⟨2, _⟩ => exact absurd rfl he

/-- One support of all batch rows. -/
def one (T : Supports) (s : Fin 2) (h : Shape.Slices S2x16x128x128 ![s.val, 0, 0, 0] S1x16x128x128) : B 128 :=
  shapeCast S16x128x128 (extractStridedSlice S1x16x128x128 ![s.val, 0, 0, 0] T h) Gen.facts.shapeCasts_S1x16x128x128_S16x128x128

theorem at3_one (T : Supports) (s : Fin 2) (h) (i : Fin 16) (n j : Fin 128) : at3 (one T s h) i n j = sup T s i n j := by
  unfold at3 one sup
  match s with
  | 0 => pointwise
  | 1 => pointwise

section Width

variable {w : ℕ} (dd : DotDims ⟨3, ![16, 128, 128]⟩ ⟨3, ![16, 128, w]⟩ ⟨3, ![16, 128, w]⟩)
  (hb : S_.BroadcastsInDim ⟨3, ![16, 128, w]⟩ ![])

/-- The first order. -/
def first (T : B 128) (V : B w) : B w := Host.dotGeneral dd none T V

/-- The second order. -/
def second (T : B 128) (V : B w) : B w :=
  subf (mulf (broadcastInDim ⟨3, ![16, 128, w]⟩ ![] hb (constant S_ .f32 0x40000000#32)) (first dd T (first dd T V))) V

/-- The five diffusions. -/
def five (T : Supports) (V : B w) : Fin 5 → B w :=
  ![V, first dd (one T 0 Gen.facts.slices_S2x16x128x128_S1x16x128x128_0_0_0_0) V,
    second dd hb (one T 0 Gen.facts.slices_S2x16x128x128_S1x16x128x128_0_0_0_0) V,
    first dd (one T 1 Gen.facts.slices_S2x16x128x128_S1x16x128x128_1_0_0_0) V,
    second dd hb (one T 1 Gen.facts.slices_S2x16x128x128_S1x16x128x128_1_0_0_0) V]

variable (hd : ∀ (T : B 128) (V : B w) i n q, at3 (Host.dotGeneral dd none T V) i n q = ∑ j, at3 T i n j * at3 V i j q)

include hd

theorem at3_five (T : Supports) (V : B w) (m : Fin 5) (i : Fin 16) (n : Fin 128) (q : Fin w) :
    at3 (five dd hb T V m) i n q = dif (sup T 0 i) (sup T 1 i) m (fun j => at3 V i j q) n := by
  have h1 : ∀ s h n, at3 (first dd (one T s h) V) i n q = ∑ j, sup T s i n j * at3 V i j q := by
    intro s h n
    simp only [first, hd, at3_one]
  have h2 : ∀ s h, at3 (second dd hb (one T s h) V) i n q
      = two * (∑ k, sup T s i n k * ∑ j, sup T s i k j * at3 V i j q) - at3 V i n q := by
    intro s h
    have e : at3 (first dd (one T s h) (first dd (one T s h) V)) i n q = ∑ k, sup T s i n k * ∑ j, sup T s i k j * at3 V i j q := by
      simp only [first, hd, at3_one]
    rw [← e]
    rfl
  match m with
  | 0 => rfl
  | 1 => exact h1 0 _ n
  | 2 => exact h2 0 _
  | 3 => exact h1 1 _ n
  | 4 => exact h2 1 _

/-- The stack of the five diffusions. -/
theorem at3_stack (T : Supports) (V : B w)
    (h : Shape.Concatenates (List.replicate 5 ⟨3, ![16, 128, w]⟩) ⟨3, ![16, 128, 5 * w]⟩ 2)
    (m : Fin 5) (i : Fin 16) (n : Fin 128) (q : Fin w) :
    at3 (w := 5 * w) (concatenate ⟨3, ![16, 128, 5 * w]⟩ 2
      [⟨⟨3, ![16, 128, w]⟩, five dd hb T V 0⟩, ⟨⟨3, ![16, 128, w]⟩, five dd hb T V 1⟩, ⟨⟨3, ![16, 128, w]⟩, five dd hb T V 2⟩,
       ⟨⟨3, ![16, 128, w]⟩, five dd hb T V 3⟩, ⟨⟨3, ![16, 128, w]⟩, five dd hb T V 4⟩] h) i n (row w m q)
      = dif (sup T 0 i) (sup T 1 i) m (fun j => at3 V i j q) n := by
  rw [← at3_five dd hb hd]
  have hw : 0 < w := Nat.lt_of_le_of_lt (Nat.zero_le _) q.isLt
  refine concatenate_ofFn_apply (t := ⟨3, ![16, 128, 5 * w]⟩) (s₁ := ⟨3, ![16, 128, w]⟩) 2 (five dd hb T V) h rfl w rfl
    (ix3 i n (row w m q)) m ?_ (ix3 i n q) ?_ ?_
  · show (w * m.val + q.val) / w = m.val
    rw [Nat.mul_add_div hw, Nat.div_eq_of_lt q.isLt, add_zero]
  · show q.val = (w * m.val + q.val) % w
    rw [Nat.mul_add_mod, Nat.mod_eq_of_lt q.isLt]
  · intro b hb
    match b with
    | ⟨0, _⟩ => rfl
    | ⟨1, _⟩ => rfl
    | ⟨2, _⟩ => exact absurd rfl hb

end Width

/-- The cell of the reference's weights: rows of a diffusion's inputs, then rows of its state. -/
def cell (D : ℕ) (wg : FVec Ideal ⟨2, ![5 * (D + 128), 256]⟩ .f32) (bg : FVec Ideal ⟨1, ![256]⟩ .f32)
    (wc : FVec Ideal ⟨2, ![5 * (D + 128), 128]⟩ .f32) (bc : FVec Ideal ⟨1, ![128]⟩ .f32) : Cell D where
  wg o m c := wg (ix2 (row (D + 128) m (left c)) o)
  vg o m f := wg (ix2 (row (D + 128) m (right f)) o)
  bg o := bg (ix1 o)
  wc o m c := wc (ix2 (row (D + 128) m (left c)) o)
  vc o m f := wc (ix2 (row (D + 128) m (right f)) o)
  bc o := bc (ix1 o)

/-- The product of a stack with a column of weights. -/
theorem pre_eq {D : ℕ} {A A' : Mat} {n : Fin 128} {st w : Fin (5 * (D + 128)) → EReal} {V : Fin 128 → Fin (D + 128) → EReal}
    (x : Fin 128 → Fin D → EReal) (h : Mat) (b : EReal)
    (hst : ∀ m q, st (row (D + 128) m q) = dif A A' m (fun j => V j q) n)
    (hx : ∀ j c, V j (left c) = x j c) (hh : ∀ j f, V j (right f) = h j f) :
    (∑ q, st q * w q) + b
      = pre A A' (fun m c => w (row (D + 128) m (left c))) (fun m f => w (row (D + 128) m (right f))) b x h n := by
  rw [sum_row]
  unfold pre
  simp only [sum_left_right, hst, hx, hh]

end Cert.ReferenceIdeal.Cells
-- ==== Proof.RefStep.lean ====
module

public import proofs.«01_k».proof.Proof.RefStack

/-! One trip of the reference's loop is one time step of the mathematics, along each batch row. -/

@[expose] public section

set_option synthInstance.maxSize 4096

noncomputable section

namespace Cert.ReferenceIdeal.Cells

open Idealize.ShloMosaic Cert.Spec Cert.ReferenceIdeal Cert.ReferenceIdeal.Step

/-- A layer's next state from what its arrays hold. -/
theorem next_eq {D : ℕ} {wg : FVec Ideal ⟨2, ![5 * (D + 128), 256]⟩ .f32} {bg : FVec Ideal ⟨1, ![256]⟩ .f32}
    {wc : FVec Ideal ⟨2, ![5 * (D + 128), 128]⟩ .f32} {bc : FVec Ideal ⟨1, ![128]⟩ .f32}
    {A A' : Mat} {x : Fin 128 → Fin D → EReal} {h : Mat} {i : Fin 16}
    {V V' : B (D + 128)} {st st' : B (5 * (D + 128))} {G : B 256} {R C N : B 128}
    (hV : ∀ n, (∀ c, at3 V i n (left c) = x n c) ∧ ∀ f, at3 V i n (right f) = h n f)
    (hst : ∀ m n q, at3 st i n (row (D + 128) m q) = dif A A' m (fun j => at3 V i j q) n)
    (hG : ∀ n o, at3 G i n o = Ideal.logistic ((∑ q, at3 st i n q * wg (ix2 q o)) + bg (ix1 o)))
    (hR : ∀ n f, at3 R i n f = at3 G i n (lo f) * h n f)
    (hV' : ∀ n, (∀ c, at3 V' i n (left c) = x n c) ∧ ∀ f, at3 V' i n (right f) = at3 R i n f)
    (hst' : ∀ m n q, at3 st' i n (row (D + 128) m q) = dif A A' m (fun j => at3 V' i j q) n)
    (hC : ∀ n f, at3 C i n f = Ideal.tanh ((∑ q, at3 st' i n q * wc (ix2 q f)) + bc (ix1 f)))
    (hN : ∀ n f, at3 N i n f = at3 G i n (hi f) * h n f + (1 - at3 G i n (hi f)) * at3 C i n f) :
    at3 N i = (cell D wg bg wc bc).next A A' x h := by
  have gate : ∀ n o, at3 G i n o = (cell D wg bg wc bc).gate A A' x h o n := fun n o =>
    (hG n o).trans (congrArg Ideal.logistic (pre_eq x h _ (hst · n) (fun j => (hV j).1) fun j => (hV j).2))
  have reset : at3 R i = (cell D wg bg wc bc).reset A A' x h := by
    funext n f
    rw [hR, gate]
    rfl
  have cand : ∀ n f, at3 C i n f = (cell D wg bg wc bc).cand A A' x ((cell D wg bg wc bc).reset A A' x h) n f := by
    intro n f
    rw [hC, ← reset]
    exact congrArg Ideal.tanh (pre_eq x (at3 R i) _ (hst' · n) (fun j => (hV' j).1) fun j => (hV' j).2)
  funext n f
  rw [hN, gate, cand]
  rfl

theorem dot192 (T : B 128) (V : B 192) (i : Fin 16) (n : Fin 128) (q : Fin 192) :
    at3 (Host.dotGeneral dot_S16x128x128_S16x128x192_S16x128x192_2_1_1_2_0_0 none T V) i n q = ∑ j, at3 T i n j * at3 V i j q := by
  unfold at3
  pointwise

theorem dot256 (T : B 128) (V : B 256) (i : Fin 16) (n : Fin 128) (q : Fin 256) :
    at3 (Host.dotGeneral dot_S16x128x128_S16x128x256_S16x128x256_2_1_1_2_0_0 none T V) i n q = ∑ j, at3 T i n j * at3 V i j q := by
  unfold at3
  pointwise

variable (j : ℕ) (s : State Ideal) (i : Fin 16)

theorem stack0 (m : Fin 5) (n : Fin 128) (q : Fin 192) :
    at3 (w := 5 * 192) (b30 j s) i n (row 192 m q) = dif (sup s.main_v33_1 0 i) (sup s.main_v33_1 1 i) m (fun k => at3 (b13 j s) i k q) n :=
  at3_stack dot_S16x128x128_S16x128x192_S16x128x192_2_1_1_2_0_0 Gen.facts.bcast_S_S16x128x192 dot192 s.main_v33_1 (b13 j s)
    (by decide) m i n q

theorem stack0' (m : Fin 5) (n : Fin 128) (q : Fin 192) :
    at3 (w := 5 * 192) (b63 j s) i n (row 192 m q) = dif (sup s.main_v33_1 0 i) (sup s.main_v33_1 1 i) m (fun k => at3 (b46 j s) i k q) n :=
  at3_stack dot_S16x128x128_S16x128x192_S16x128x192_2_1_1_2_0_0 Gen.facts.bcast_S_S16x128x192 dot192 s.main_v33_1 (b46 j s)
    (by decide) m i n q

theorem stack1 (m : Fin 5) (n : Fin 128) (q : Fin 256) :
    at3 (w := 5 * 256) (b92 j s) i n (row 256 m q) = dif (sup s.main_v33_1 0 i) (sup s.main_v33_1 1 i) m (fun k => at3 (b75 j s) i k q) n :=
  at3_stack dot_S16x128x128_S16x128x256_S16x128x256_2_1_1_2_0_0 Gen.facts.bcast_S_S16x128x256 dot256 s.main_v33_1 (b75 j s)
    (by decide) m i n q

theorem stack1' (m : Fin 5) (n : Fin 128) (q : Fin 256) :
    at3 (w := 5 * 256) (b125 j s) i n (row 256 m q) = dif (sup s.main_v33_1 0 i) (sup s.main_v33_1 1 i) m (fun k => at3 (b108 j s) i k q) n :=
  at3_stack dot_S16x128x128_S16x128x256_S16x128x256_2_1_1_2_0_0 Gen.facts.bcast_S_S16x128x256 dot256 s.main_v33_1 (b108 j s)
    (by decide) m i n q

/-- The first layer's next state. -/
theorem layer0 : at3 (b74 j s) i = (cell 64 s.main_v33_2 s.main_v33_3 s.main_v33_4 s.main_v33_5).next
    (sup s.main_v33_1 0 i) (sup s.main_v33_1 1 i) (at3 (b12 j s) i) (at3 s.main_v33_12 i) := by
  refine next_eq (D := 64) (V := b13 j s) (V' := b46 j s) (st := b30 j s) (st' := b63 j s) (G := b42 j s) (R := b45 j s)
    (C := b68 j s) (at3_pair (a := 64) (b := 128) (b12 j s) s.main_v33_12 _ i) (stack0 j s i) ?_ ?_
    (at3_pair (a := 64) (b := 128) (b12 j s) (b45 j s) _ i) (stack0' j s i) ?_ ?_
  · intro n o
    unfold at3 b42 b41 b40 b39 b38 b37 b36 b35 b34 b33 b32 b31
    clean_types
    pointwise
    rfl
  · intro n f
    unfold at3 b45 b43
    clean_types
    pointwise
    rfl
  · intro n f
    unfold at3 b68 b67 b66 b65 b64
    clean_types
    pointwise
  · intro n f
    unfold at3 b74 b73 b72 b71 b70 b69 b44
    clean_types
    pointwise
    rfl

/-- The second layer's next state. -/
theorem layer1 : at3 (b136 j s) i = (cell 128 s.main_v33_6 s.main_v33_7 s.main_v33_8 s.main_v33_9).next
    (sup s.main_v33_1 0 i) (sup s.main_v33_1 1 i) (at3 (b74 j s) i) (at3 s.main_v33_13 i) := by
  refine next_eq (D := 128) (V := b75 j s) (V' := b108 j s) (st := b92 j s) (st' := b125 j s) (G := b104 j s) (R := b107 j s)
    (C := b130 j s) (at3_pair (a := 128) (b := 128) (b74 j s) s.main_v33_13 _ i) (stack1 j s i) ?_ ?_
    (at3_pair (a := 128) (b := 128) (b74 j s) (b107 j s) _ i) (stack1' j s i) ?_ ?_
  · intro n o
    unfold at3 b104 b103 b102 b101 b100 b99 b98 b97 b96 b95 b94 b93
    clean_types
    pointwise
    rfl
  · intro n f
    unfold at3 b107 b105
    clean_types
    pointwise
    rfl
  · intro n f
    unfold at3 b130 b129 b128 b127 b126
    clean_types
    pointwise
  · intro n f
    unfold at3 b136 b135 b134 b133 b132 b131 b106
    clean_types
    pointwise
    rfl

/-- The time step a trip reads, as the program computes it. -/
theorem start_eq : ∀ t : Fin 12,
    (min (max (Scalar.select (IntOp.cmpi .slt (BitVec.ofNat 32 t) 0#32) (IntOp.addi (BitVec.ofNat 32 t) 12#32)
      (BitVec.ofNat 32 t)).toInt 0) ((12 - 1 : ℕ) : ℤ)).toNat = t.val := by decide

/-- A trip's inputs are the arrays' slice at that time step. -/
theorem trip_input (t : Fin 12) (n : Fin 128) (c : Fin 64) : at3 (b12 t s) i n c = s.main_v33_0 (ix4 i t n c) := by
  unfold at3 b12 b11
  clean_types
  pointwise
  refine congrArg s.main_v33_0 (funext fun a => Fin.ext ?_)
  match a with
  | ⟨0, _⟩ =>
    show (min (max _ 0) (0 : ℤ)).toNat + i.val = i.val
    omega
  | ⟨1, _⟩ => exact start_eq t
  | ⟨2, _⟩ =>
    show (min (max _ 0) (0 : ℤ)).toNat + n.val = n.val
    omega
  | ⟨3, _⟩ =>
    show (min (max _ 0) (0 : ℤ)).toNat + c.val = c.val
    omega

end Cert.ReferenceIdeal.Cells
-- ==== Proof.RefCorr.lean ====
module

public import proofs.«01_k».proof.Proof.Corr
public import proofs.«01_k».proof.Proof.RefStep

/-! The reference's supports are the supports of the mathematics, along each batch row. -/

@[expose] public section

set_option synthInstance.maxSize 4096

noncomputable section

namespace Cert.ReferenceIdeal.Cells

open Idealize.ShloMosaic Cert.Spec Cert.ReferenceIdeal Cert.ReferenceIdeal.Step

/-- The inputs: batch rows, time steps, nodes, features. -/
abbrev Inputs := FVec Ideal S16x12x128x64 .f32

/-- A batch row's series: time step and feature together, then the node. -/
def ser (x : Inputs) (i : Fin 16) (r : Fin 768) (n : Fin 128) : EReal := x (ix4 i ⟨r / 64, by omega⟩ n ⟨r % 64, by omega⟩)

variable (x : Inputs) (i : Fin 16)

theorem series_at (n : Fin 128) (r : Fin 768) : (A_main_v1 (F := Ideal) x (ix3 i n r) : EReal) = ser x i r n := by
  unfold A_main_v1 A_main_v0
  clean_types
  pointwise
  rfl

theorem size_eq : Ideal.ofBits .f32 0x44400000#32 = ((768 : ℝ) : EReal) := by
  simp [Ideal.ofBits, Ideal.ieee, -EReal.coe_mul]
  norm_num

theorem centred_at (n : Fin 128) (r : Fin 768) : (A_main_v7 (F := Ideal) x (ix3 i n r) : EReal) = cen (ser x i) r n := by
  unfold A_main_v7 A_main_v6 A_main_v5 A_main_v3 A_main_v2 K_main_cst K_main_v4 K_main_cst_0
  clean_types
  pointwise
  simp only [series_at]
  rw [size_eq, Ideal.div_coe (by norm_num), one_div]
  rfl

variable (H : Varied (ser x i))

include H

theorem cor_at (n k : Fin 128) : (A_main_v18 (F := Ideal) x (ix3 i n k) : EReal) = cor (ser x i) n k := by
  rw [← cor_eq H]
  unfold A_main_v18 A_main_v17 A_main_v16 A_main_v15 A_main_v14 A_main_v13 A_main_v12 A_main_v11 A_main_v10 A_main_v9 A_main_v8
    K_main_call0_v1 K_main_call0_v0 K_main_cst_1
  clean_types
  pointwise
  have e : ∀ a : EReal, max (id (constant (F := Ideal) S_ .f32 730643660#32) ix0) a = max a least := fun a => max_comm _ _
  simp only [centred_at, e]
  rfl

theorem sup_at : sup (A_main_v30 (F := Ideal) x) 0 i = supA (ser x i) ∧ sup (A_main_v30 (F := Ideal) x) 1 i = supB (ser x i) := by
  constructor
  · funext n k
    unfold sup A_main_v30 A_main_v29 A_main_v28 A_main_v22 A_main_v21 A_main_v20 A_main_v19 K_main_cst_2
    clean_types
    pointwise
    simp only [cor_at x i H]
    rfl
  · funext n k
    unfold sup A_main_v30 A_main_v29 A_main_v28 A_main_v27 A_main_v26 A_main_v25 A_main_v24 A_main_v23 K_main_cst_3
    clean_types
    pointwise
    simp only [cor_at x i H]
    rfl

end Cert.ReferenceIdeal.Cells
-- ==== Proof.Precondition.lean ====
module

public import proofs.«01_k».proof.Pre_varied
public import proofs.«01_k».proof.Proof.RefCorr
public import Idealize.ShloMosaic.Lib.Pointwise

/-! What the precondition says: every node's series is real and takes two values. -/

@[expose] public section

set_option maxRecDepth 100000

noncomputable section

namespace Cert.Pre_varied

open Idealize.ShloMosaic Cert.Spec Cert.ReferenceIdeal.Cells
open Facts

/-- The precondition's operations have their side conditions. -/
instance facts : Facts where
  transposes_S16x12x128x64_S16x128x12x64_0_2_1_3 := by decide
  shapeCasts_S16x128x12x64_S16x128x768 := by decide
  bcast_S_S16x128x768 := by decide
  reducesTo_S16x128x768_S16x128_d2 := by decide
  h_S_ := by decide

theorem bit_one {p : Prop} [Decidable p] (h : BitVec.ofBool (decide p) = 1#1) : p := by
  by_contra hp
  rw [decide_eq_false hp] at h
  exact absurd h (by decide)

theorem plus_inf : Ideal.ofBits .f32 0x7F800000#32 = ⊤ := by simp [Ideal.ofBits, Ideal.ieee]
theorem minus_inf : Ideal.ofBits .f32 0xFF800000#32 = ⊥ := by simp [Ideal.ofBits, Ideal.ieee]

theorem varied {x : Inputs} {a1 a2 a3 a4 a5 a6 a7 a8 a9 a10}
    (h : (fn (F := Ideal) x a1 a2 a3 a4 a5 a6 a7 a8 a9 a10).1 = fun _ => 1#1)
    (h' : (fn (F := Ideal) x a1 a2 a3 a4 a5 a6 a7 a8 a9 a10).2 = fun _ => 1#1) (i : Fin 16) : Varied (ser x i) where
  real r n := by
    have e := congrFun h (ix3 i n r)
    unfold fn at e
    pointwise at e
    have l : max (ser x i r n) (-ser x i r n) < Ideal.ofBits .f32 0x7F800000#32 := bit_one e
    rw [plus_inf] at l
    have l1 := (le_max_left _ _).trans_lt l
    have l2 := (le_max_right _ _).trans_lt l
    generalize ser x i r n = y at l1 l2
    induction y using EReal.rec with
    | bot => exact absurd l2 (by simp)
    | coe r => exact ⟨r, rfl⟩
    | top => exact absurd l1 (by simp)
  two n := by
    have e := congrFun h' (ix2 i n)
    unfold fn at e
    pointwise at e
    have l : Finset.univ.fold min (Ideal.ofBits .f32 0x7F800000#32) (fun r => ser x i r n)
      < Finset.univ.fold max (Ideal.ofBits .f32 0xFF800000#32) (fun r => ser x i r n) := bit_one e
    rw [plus_inf, minus_inf] at l
    by_contra hall
    push Not at hall
    refine absurd l (not_lt.mpr (le_trans (b := ser x i 0 n) ?_ ?_))
    · exact Finset.fold_max_le _ |>.mpr ⟨bot_le, fun r _ => (hall r 0).le⟩
    · exact Finset.le_fold_min _ |>.mpr ⟨le_top, fun r _ => (hall 0 r).le⟩

end Cert.Pre_varied

end
-- ==== Proof.Model.lean ====
module

public import proofs.«01_k».proof.Proof.Gen.KernelIdeal
public import Idealize.ShloMosaic.Lib.MatmulPlain

/-! The kernel's arithmetic as functions of whole arrays, with the sixteen batch rows and the
    twelve time steps as indices: the supports of a batch row, the diffusion of a state along all
    the batch rows, one gated cell, one time step, and the readout. The definitions keep the order of
    the kernel's own operations, at every float instance. -/

@[expose] public section

set_option synthInstance.maxSize 4096

noncomputable section

namespace Cert.KernelIdeal.Model

open Idealize.ShloMosaic

variable {F : FTy → Type} [FloatOps F] [Named F]

/-- A matrix of `R` rows and `C` columns. -/
abbrev M (F : FTy → Type) (R C : ℕ) := FVec F ⟨2, ![R, C]⟩ .f32

theorem slices2 {R C r c a b : ℕ} (h : a + r ≤ R) (h' : b + c ≤ C) :
    Shape.Slices ⟨2, ![R, C]⟩ ![a, b] ⟨2, ![r, c]⟩ :=
  ⟨rfl, fun i => match i with | ⟨0, _⟩ => h | ⟨1, _⟩ => h'⟩

theorem concat16 (R : ℕ) : Shape.Concatenates (List.replicate 16 ⟨2, ![R, 128]⟩) ⟨2, ![R, 2048]⟩ 1 := by
  refine ⟨by rw [List.length_replicate]; decide, ?_, ?_⟩
  rotate_left
  · rw [List.map_replicate, List.sum_replicate]
    rfl
  intro s hs
  obtain rfl := List.eq_of_mem_replicate hs
  refine ⟨rfl, fun b hb => ?_⟩
  match b with
  | ⟨0, _⟩ => rfl
  | ⟨1, _⟩ => exact absurd rfl hb

theorem concats512 : Shape.Concatenates [S128x128, S128x128, S128x128, S128x128] S128x512 1 := by decide
theorem concats640 : Shape.Concatenates [S128x2048, S128x2048, S128x2048, S128x2048, S128x2048] S640x2048 0 := by decide
theorem concats4 : Shape.Concatenates [S128x2048, S128x2048, S128x2048, S128x2048] S512x2048 0 := by decide
theorem concats320 : Shape.Concatenates [S64x2048, S64x2048, S64x2048, S64x2048, S64x2048] S320x2048 0 := by decide
theorem concats448 : Shape.Concatenates [S320x2048, S128x2048] S448x2048 0 := by decide
theorem concats768 : Shape.Concatenates [S640x2048, S128x2048] S768x2048 0 := by decide
theorem concats256 : Shape.Concatenates [S128x2048, S128x2048] S256x2048 0 := by decide
theorem concatsTop : Shape.Concatenates (List.replicate 16 S1x1x128) S16x1x128 0 := by decide

/-- The zero matrix a product accumulates into. -/
abbrev zeroM (R C : ℕ) : M F R C := constant ⟨2, ![R, C]⟩ .f32 0x00000000#32

/-- The plain product of two matrices. -/
abbrev mm {R K C : ℕ} (a : M F R K) (b : M F K C) : M F R C := matmul (DotDims.plain R K C) none a b (zeroM R C)

/-- The block of `r` rows and `c` columns of a matrix from row `a` and column `b`. -/
abbrev blk {R C : ℕ} (r c a b : ℕ) (v : M F R C) (h : a + r ≤ R := by decide) (h' : b + c ≤ C := by decide) : M F r c :=
  extractStridedSlice ⟨2, ![r, c]⟩ ![a, b] v (slices2 h h')

/-- Sixteen blocks of 128 columns side by side. -/
def cat16 {R : ℕ} (f : Fin 16 → M F R 128) : M F R 2048 :=
  concatenate ⟨2, ![R, 2048]⟩ 1
    [⟨⟨2, ![R, 128]⟩, f 0⟩, ⟨⟨2, ![R, 128]⟩, f 1⟩, ⟨⟨2, ![R, 128]⟩, f 2⟩, ⟨⟨2, ![R, 128]⟩, f 3⟩,
     ⟨⟨2, ![R, 128]⟩, f 4⟩, ⟨⟨2, ![R, 128]⟩, f 5⟩, ⟨⟨2, ![R, 128]⟩, f 6⟩, ⟨⟨2, ![R, 128]⟩, f 7⟩,
     ⟨⟨2, ![R, 128]⟩, f 8⟩, ⟨⟨2, ![R, 128]⟩, f 9⟩, ⟨⟨2, ![R, 128]⟩, f 10⟩, ⟨⟨2, ![R, 128]⟩, f 11⟩,
     ⟨⟨2, ![R, 128]⟩, f 12⟩, ⟨⟨2, ![R, 128]⟩, f 13⟩, ⟨⟨2, ![R, 128]⟩, f 14⟩, ⟨⟨2, ![R, 128]⟩, f 15⟩] (concat16 R)

/-- The identity matrix of the nodes. -/
def eye : M F 128 128 :=
  select (cmpi .eq (iota .tc S128x128 32 [0]) (iota .tc S128x128 32 [1]))
    (broadcast S128x128 (Scalar.ofBits .f32 0x3F800000#32)) (broadcast S128x128 (Scalar.ofBits .f32 0x00000000#32))

/-- A batch row's series, one column a node. -/
def series (x : FVec F S1x12x128x64 .f32) : M F 768 128 :=
  shapeCast S768x128 (transpose S12x64x128 [0, 2, 1] (shapeCast S12x128x64 x))

/-- The sum of each column, as a row. -/
def colSum {R : ℕ} (v : M F R 128) (h : Shape.Reduces ⟨2, ![R, 128]⟩ [0] S128) : M F 1 128 :=
  shapeCast S1x128 (multiReduction .add [0] S128 v 0x00000000#32 h (.inl rfl) rfl)

/-- The series less its mean. -/
def centred (v : M F 768 128) : M F 768 128 :=
  subf v (broadcastTo S768x128 (mulf (colSum v (by decide)) (broadcast S1x128 (Named.named κ "inv768" 0x3AAAAAAB#32))))

/-- The root of a node's sum of squares. -/
def vari (w : M F 768 128) : M F 1 128 :=
  sqrt (maximumf (colSum (mulf w w) (by decide)) (broadcast S1x128 (Scalar.ofBits .f32 0x2B8CBCCC#32)))

/-- The absolute correlations of the nodes. -/
def adj (w : M F 768 128) : M F 128 128 :=
  divf (absf (matmul dot_S768x128_S768x128_S128x128_0_0_1_1_n_n none w w (constant S128x128 .f32 0x00000000#32)))
    (mulf (broadcastTo S128x128 (transpose S128x1 [1, 0] (vari w))) (broadcastTo S128x128 (vari w)))

/-- The first support, transposed: each row's sum divides that row of the correlations. -/
def sup0 (a : M F 128 128) : M F 128 128 :=
  divf (transpose S128x128 [1, 0] a) (broadcastTo S128x128 (transpose S1x128 [1, 0]
    (shapeCast S128x1 (multiReduction .add [1] S128 a 0x00000000#32 (by decide) (.inl rfl) rfl))))

/-- The second support, transposed: each column's sum divides that column of the correlations. -/
def sup1 (a : M F 128 128) : M F 128 128 := divf a (broadcastTo S128x128 (colSum a (by decide)))

/-- The second order of a support: twice its square less the identity. -/
def order2 (s : M F 128 128) : M F 128 128 := subf (mulf (mm s s) (broadcast S128x128 (Scalar.ofBits .f32 0x40000000#32))) eye

/-- The four matrices of a batch row side by side. -/
def supports (v : M F 768 128) : M F 128 512 :=
  concatenate S128x512 1
    [⟨S128x128, sup0 (adj (centred v))⟩, ⟨S128x128, order2 (sup0 (adj (centred v)))⟩,
     ⟨S128x128, sup1 (adj (centred v))⟩, ⟨S128x128, order2 (sup1 (adj (centred v)))⟩] concats512

section Step

variable (S : Fin 16 → M F 128 512)

/-- A batch row of a state times that row's supports. -/
def prods {R : ℕ} (v : M F R 2048) (i : Fin 16) : M F R 512 :=
  mm (blk R 128 0 (128 * i) v (by omega) (by omega)) (S i)

/-- The `k`-th diffusion of a state. -/
def diffuse {R : ℕ} (v : M F R 2048) (k : Fin 4) : M F R 2048 :=
  cat16 fun i => blk R 128 0 (128 * k) (prods S v i) (by omega) (by omega)

/-- Five blocks of rows, one under the other. -/
def cat5 (a b c d e : M F 128 2048) : M F 640 2048 :=
  concatenate S640x2048 0 [⟨S128x2048, a⟩, ⟨S128x2048, b⟩, ⟨S128x2048, c⟩, ⟨S128x2048, d⟩, ⟨S128x2048, e⟩] concats640

/-- Four blocks of rows, one under the other. -/
def cat4 (b c d e : M F 128 2048) : M F 512 2048 :=
  concatenate S512x2048 0 [⟨S128x2048, b⟩, ⟨S128x2048, c⟩, ⟨S128x2048, d⟩, ⟨S128x2048, e⟩] concats4

/-- A state and its four diffusions. -/
def withDiff (v : M F 128 2048) (d : Fin 4 → M F 128 2048) : M F 640 2048 := cat5 v (d 0) (d 1) (d 2) (d 3)

/-- The gates: the inputs' part, the diffused state's part, the bias, the logistic function. -/
def gates (ipg : M F 384 2048) (d : Fin 4 → M F 128 2048) (wg : M F 256 512) (bg : M F 256 1) : M F 256 2048 :=
  logistic (addf (addf (blk 256 2048 0 0 ipg) (mm wg (cat4 (d 0) (d 1) (d 2) (d 3)))) (broadcastTo S256x2048 bg))

/-- The reset state. -/
def reset (g : M F 256 2048) (h : M F 128 2048) : M F 128 2048 := mulf (blk 128 2048 0 0 g) h

/-- The candidate state. -/
def candidate (ipg : M F 384 2048) (rh : M F 128 2048) (wc : M F 128 640) (bc : M F 128 1) : M F 128 2048 :=
  tanh (addf (addf (blk 128 2048 256 0 ipg) (mm wc (withDiff rh (diffuse S rh)))) (broadcastTo S128x2048 bc))

/-- The mix of the old state and the candidate by the update gate. -/
def mix (u h c : M F 128 2048) : M F 128 2048 :=
  addf (mulf u h) (mulf (subf (broadcast S128x2048 (Scalar.ofBits .f32 0x3F800000#32)) u) c)

/-- One gated cell. -/
def gru (ipg : M F 384 2048) (h : M F 128 2048) (d : Fin 4 → M F 128 2048) (wg : M F 256 512) (bg : M F 256 1)
    (wc : M F 128 640) (bc : M F 128 1) : M F 128 2048 :=
  mix (blk 128 2048 128 0 (gates ipg d wg bg)) h (candidate S ipg (reset (gates ipg d wg bg) h) wc bc)

/-- The cell from the zero state. -/
def gruZero (ipg : M F 384 2048) (bg : M F 256 1) (bc : M F 128 1) : M F 128 2048 :=
  mulf (subf (broadcast S128x2048 (Scalar.ofBits .f32 0x3F800000#32))
      (logistic (addf (blk 128 2048 128 0 ipg) (broadcastTo S128x2048 (blk 128 1 128 0 bg)))))
    (tanh (addf (blk 128 2048 256 0 ipg) (broadcastTo S128x2048 bc)))

variable (X : Fin 16 → M F 768 128)

/-- Four time steps of a batch row times its supports. -/
def xprods (q : Fin 3) (i : Fin 16) : M F 256 512 :=
  mm (blk 256 128 (256 * q) 0 (X i) (by omega) (by omega)) (S i)

/-- The inputs of time step `t` at all batch rows. -/
def input (t : Fin 12) : M F 64 2048 := cat16 fun i => blk 64 128 (64 * t) 0 (X i) (by omega) (by omega)

/-- The `k`-th diffusion of the inputs of time step `t`. -/
def inputDiff (t : Fin 12) (k : Fin 4) : M F 64 2048 :=
  cat16 fun i => blk 64 128 (64 * (t % 4)) (128 * k) (xprods S X ⟨t / 4, by omega⟩ i) (by omega) (by omega)

/-- The inputs of time step `t` and their four diffusions. -/
def inputs (t : Fin 12) : M F 320 2048 :=
  concatenate S320x2048 0
    [⟨S64x2048, input X t⟩, ⟨S64x2048, inputDiff S X t 0⟩, ⟨S64x2048, inputDiff S X t 1⟩,
     ⟨S64x2048, inputDiff S X t 2⟩, ⟨S64x2048, inputDiff S X t 3⟩] concats320

end Step

/-- The weights as the kernel holds them. -/
structure Weights (F : FTy → Type) where
  wi0 : M F 384 448
  wg0 : M F 256 512
  bg0 : M F 256 1
  wc0 : M F 128 640
  bc0 : M F 128 1
  wi1 : M F 384 768
  wg1 : M F 256 512
  bg1 : M F 256 1
  wc1 : M F 128 640
  bc1 : M F 128 1
  wfc : M F 128 1
  bfc : M F 1 1

/-- The two layers' states between two time steps, and the diffusions of the first. -/
structure State (F : FTy → Type) where
  h0 : M F 128 2048
  d0 : Fin 4 → M F 128 2048
  h1 : M F 128 2048

section Run

variable (W : Weights F) (S : Fin 16 → M F 128 512) (X : Fin 16 → M F 768 128)

/-- The first layer after the first time step. -/
def first0 : M F 128 2048 := gruZero (mm (blk 384 320 0 0 W.wi0) (inputs S X 0)) W.bg0 W.bc0

/-- The second layer after the first time step. -/
def first1 : M F 128 2048 :=
  gruZero (mm (blk 384 640 0 0 W.wi1) (withDiff (first0 W S X) (diffuse S (first0 W S X)))) W.bg1 W.bc1

/-- The states after the first time step. -/
def first : State F := ⟨first0 W S X, diffuse S (first0 W S X), first1 W S X⟩

/-- The first layer's next state. -/
def next0 (t : Fin 12) (s : State F) : M F 128 2048 :=
  gru S (mm W.wi0 (concatenate S448x2048 0 [⟨S320x2048, inputs S X t⟩, ⟨S128x2048, s.h0⟩] concats448)) s.h0 s.d0 W.wg0 W.bg0 W.wc0 W.bc0

/-- The diffusions of the two layers' states together. -/
def both (h0 h1 : M F 128 2048) (k : Fin 4) : M F 256 2048 :=
  diffuse S (concatenate S256x2048 0 [⟨S128x2048, h0⟩, ⟨S128x2048, h1⟩] concats256) k

/-- The second layer's next state, from the first layer's next state. -/
def next1 (h0 h1 : M F 128 2048) : M F 128 2048 :=
  gru S (mm W.wi1 (concatenate S768x2048 0
      [⟨S640x2048, withDiff h0 fun k => blk 128 2048 0 0 (both S h0 h1 k)⟩, ⟨S128x2048, h1⟩] concats768))
    h1 (fun k => blk 128 2048 128 0 (both S h0 h1 k)) W.wg1 W.bg1 W.wc1 W.bc1

/-- One time step. -/
def next (t : Fin 12) (s : State F) : State F :=
  ⟨next0 W S X t s, fun k => blk 128 2048 0 0 (both S (next0 W S X t s) s.h1 k), next1 W S (next0 W S X t s) s.h1⟩

/-- The states after all twelve time steps. -/
def last : State F :=
  next W S X 11 (next W S X 10 (next W S X 9 (next W S X 8 (next W S X 7 (next W S X 6 (next W S X 5 (next W S X 4
    (next W S X 3 (next W S X 2 (next W S X 1 (first W S X)))))))))))

/-- The readout of a state at every node. -/
def readout (h : M F 128 2048) (wfc : M F 128 1) (bfc : M F 1 1) : M F 1 2048 :=
  addf (shapeCast S1x2048 (multiReduction .add [0] S2048
      (mulf (maximumf h (broadcast S128x2048 (Scalar.ofBits .f32 0x00000000#32))) (broadcastTo S128x2048 wfc))
      0x00000000#32 (by decide) (.inl rfl) rfl))
    (broadcastTo S1x2048 bfc)

/-- The greatest readout of a batch row's nodes, at every position of that row of the result. -/
def top (l : M F 1 2048) (i : Fin 16) : FVec F S1x1x128 .f32 :=
  broadcast S1x1x128 (extractAt ![0, 0, 0] (shapeCast S1x1x1 (multiReduction .maximumf [1, 2] S1
    (shapeCast S1x1x128 (blk 1 128 0 (128 * i) l (by omega) (by omega))) 0xFF800000#32 (by decide) (.inl rfl) rfl)))

/-- The result from the readouts. -/
def collect (l : M F 1 2048) : FVec F S16x1x128 .f32 :=
  concatenate S16x1x128 0
    [⟨S1x1x128, top l 0⟩, ⟨S1x1x128, top l 1⟩, ⟨S1x1x128, top l 2⟩, ⟨S1x1x128, top l 3⟩,
     ⟨S1x1x128, top l 4⟩, ⟨S1x1x128, top l 5⟩, ⟨S1x1x128, top l 6⟩, ⟨S1x1x128, top l 7⟩,
     ⟨S1x1x128, top l 8⟩, ⟨S1x1x128, top l 9⟩, ⟨S1x1x128, top l 10⟩, ⟨S1x1x128, top l 11⟩,
     ⟨S1x1x128, top l 12⟩, ⟨S1x1x128, top l 13⟩, ⟨S1x1x128, top l 14⟩, ⟨S1x1x128, top l 15⟩] concatsTop

/-- The kernel's result from the weights and the batch rows' series. -/
def result : FVec F S16x1x128 .f32 :=
  collect (readout (last W (fun i => supports (X i)) X).h1 W.wfc W.bfc)

end Run

end Cert.KernelIdeal.Model
-- ==== Proof.Stored.lean ====
module

public import proofs.«01_k».proof.Proof.Gen.KernelIdeal.Frame
public import proofs.«01_k».proof.Proof.Model

/-! What the kernel stores, read off its run: `Model.result` of the blocks it loaded. -/

@[expose] public section

set_option maxRecDepth 100000

noncomputable section

namespace Cert.KernelIdeal.Stored

open Cert.KernelIdeal.Gen Idealize.ShloMosaic Idealize.ShloMosaic.TcCoe Idealize.SL.Sem

variable {F : FTy → Type} [FloatOps F] [Named F]

theorem inbRow (b : Fin 16) : ∀ a, (![b, 0, 0, 0] : Fin 4 → Nat) a + S1x12x128x64.size a ≤ S16x12x128x64.size a := by
  decide +revert

/-- The one store of the run holds the model's result of the loaded blocks. -/
theorem pieces (c : Dev nD) (i : grid0.Coords) (arg1 : Memref sig .tc .vmem S16x12x128x64 .f32) (harg1 : arg1.IsWhole) (arg2 : Memref sig .tc .vmem S384x448 .f32) (harg2 : arg2.IsWhole) (arg3 : Memref sig .tc .vmem S256x512 .f32) (harg3 : arg3.IsWhole) (arg4 : Memref sig .tc .vmem S256x1 .f32) (harg4 : arg4.IsWhole) (arg5 : Memref sig .tc .vmem S128x640 .f32) (harg5 : arg5.IsWhole) (arg6 : Memref sig .tc .vmem S128x1 .f32) (harg6 : arg6.IsWhole) (arg7 : Memref sig .tc .vmem S384x768 .f32) (harg7 : arg7.IsWhole) (arg8 : Memref sig .tc .vmem S256x512 .f32) (harg8 : arg8.IsWhole) (arg9 : Memref sig .tc .vmem S256x1 .f32) (harg9 : arg9.IsWhole) (arg10 : Memref sig .tc .vmem S128x640 .f32) (harg10 : arg10.IsWhole) (arg11 : Memref sig .tc .vmem S128x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S16x1x128 .f32) (harg14 : arg14.IsWhole) (hc0 : cond0_0 i)
    (x0 : Vec F S16x12x128x64 .f32) (x1 : Vec F S384x448 .f32) (x2 : Vec F S256x512 .f32) (x3 : Vec F S256x1 .f32) (x4 : Vec F S128x640 .f32) (x5 : Vec F S128x1 .f32) (x6 : Vec F S384x768 .f32) (x7 : Vec F S256x512 .f32) (x8 : Vec F S256x1 .f32) (x9 : Vec F S128x640 .f32) (x10 : Vec F S128x1 .f32) (x11 : Vec F S128x1 .f32) (x12 : Vec F S1x1 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 x12).1
      = [⟨Rect.unit ![0, 0, 0] S16x1x128.size inb_S16x1x128_S16x1x128_0_0_0,
          Model.result
            ⟨(shapeCast S384x448 (View.readAt (Elt F) arg2.view (Rect.unit (s := S384x448) ![0, 0] S384x448.size (by decide)).toLoadRect (harg2.unread x1))),
              (shapeCast S256x512 (View.readAt (Elt F) arg3.view (Rect.unit (s := S256x512) ![0, 0] S256x512.size (by decide)).toLoadRect (harg3.unread x2))),
              (shapeCast S256x1 (View.readAt (Elt F) arg4.view (Rect.unit (s := S256x1) ![0, 0] S256x1.size (by decide)).toLoadRect (harg4.unread x3))),
              (shapeCast S128x640 (View.readAt (Elt F) arg5.view (Rect.unit (s := S128x640) ![0, 0] S128x640.size (by decide)).toLoadRect (harg5.unread x4))),
              (shapeCast S128x1 (View.readAt (Elt F) arg6.view (Rect.unit (s := S128x1) ![0, 0] S128x1.size (by decide)).toLoadRect (harg6.unread x5))),
              (shapeCast S384x768 (View.readAt (Elt F) arg7.view (Rect.unit (s := S384x768) ![0, 0] S384x768.size (by decide)).toLoadRect (harg7.unread x6))),
              (shapeCast S256x512 (View.readAt (Elt F) arg8.view (Rect.unit (s := S256x512) ![0, 0] S256x512.size (by decide)).toLoadRect (harg8.unread x7))),
              (shapeCast S256x1 (View.readAt (Elt F) arg9.view (Rect.unit (s := S256x1) ![0, 0] S256x1.size (by decide)).toLoadRect (harg9.unread x8))),
              (shapeCast S128x640 (View.readAt (Elt F) arg10.view (Rect.unit (s := S128x640) ![0, 0] S128x640.size (by decide)).toLoadRect (harg10.unread x9))),
              (shapeCast S128x1 (View.readAt (Elt F) arg11.view (Rect.unit (s := S128x1) ![0, 0] S128x1.size (by decide)).toLoadRect (harg11.unread x10))),
              (View.readAt (Elt F) arg12.view (Rect.unit (s := S128x1) ![0, 0] S128x1.size (by decide)).toLoadRect (harg12.unread x11)),
              (shapeCast S1x1 (View.readAt (Elt F) arg13.view (Rect.unit (s := S1x1) ![0, 0] S1x1.size (by decide)).toLoadRect (harg13.unread x12)))⟩
            fun b => Model.series (View.readAt (Elt F) arg1.view
              (Rect.unit (s := S16x12x128x64) ![b, 0, 0, 0] S1x12x128x64.size (inbRow b)).toLoadRect (harg1.unread x0))⟩] := by
  sl_kernel_rfl

end Cert.KernelIdeal.Stored
-- ==== Proof.KernelValue.lean ====
module

public import proofs.«01_k».proof.Proof.Gen.KernelIdeal.Value
public import proofs.«01_k».proof.Proof.Stored

/-! The kernel's result array after a run: the model's result of the arrays the region finds. -/

@[expose] public section

set_option maxRecDepth 100000

noncomputable section

namespace Cert.KernelIdeal.Final

open Cert.KernelIdeal.Gen Cert.KernelIdeal.Value Cert.KernelIdeal.Stored Idealize.ShloMosaic Idealize.ShloMosaic.TcCoe Idealize.SL.Sem

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- One batch row of the argument. -/
def batch (x : Vec F S16x12x128x64 .f32) (b : Fin 16) : FVec F S1x12x128x64 .f32 :=
  View.ld x (Rect.unit (s := S16x12x128x64) ![b, 0, 0, 0] S1x12x128x64.size (inbRow b))

/-- What the run leaves in the output's buffer, of the blocks it is given. -/
theorem out_eq (c : Dev nD) (i : grid0.Coords) (arg1 : Memref sig .tc .vmem S16x12x128x64 .f32) (harg1 : arg1.IsWhole) (arg2 : Memref sig .tc .vmem S384x448 .f32) (harg2 : arg2.IsWhole) (arg3 : Memref sig .tc .vmem S256x512 .f32) (harg3 : arg3.IsWhole) (arg4 : Memref sig .tc .vmem S256x1 .f32) (harg4 : arg4.IsWhole) (arg5 : Memref sig .tc .vmem S128x640 .f32) (harg5 : arg5.IsWhole) (arg6 : Memref sig .tc .vmem S128x1 .f32) (harg6 : arg6.IsWhole) (arg7 : Memref sig .tc .vmem S384x768 .f32) (harg7 : arg7.IsWhole) (arg8 : Memref sig .tc .vmem S256x512 .f32) (harg8 : arg8.IsWhole) (arg9 : Memref sig .tc .vmem S256x1 .f32) (harg9 : arg9.IsWhole) (arg10 : Memref sig .tc .vmem S128x640 .f32) (harg10 : arg10.IsWhole) (arg11 : Memref sig .tc .vmem S128x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S16x1x128 .f32) (harg14 : arg14.IsWhole) (hc0 : cond0_0 i) (x0 : Vec F S16x12x128x64 .f32) (x1 : Vec F S384x448 .f32) (x2 : Vec F S256x512 .f32) (x3 : Vec F S256x1 .f32) (x4 : Vec F S128x640 .f32) (x5 : Vec F S128x1 .f32) (x6 : Vec F S384x768 .f32) (x7 : Vec F S256x512 .f32) (x8 : Vec F S256x1 .f32) (x9 : Vec F S128x640 .f32) (x10 : Vec F S128x1 .f32) (x11 : Vec F S128x1 .f32) (x12 : Vec F S1x1 .f32) :
    out0_A_13 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 x12
      = Model.result ⟨x1, x2, x3, x4, x5, x6, x7, x8, x9, x10, x11, x12⟩ fun b => Model.series (batch x0 b) := by
  unfold out0_A_13
  rw [View.read_writes_junk_eq_canon, pieces, View.canon_unit_zero hz3]
  simp only [View.readAt_eq_ld, Memref.IsWhole.read_unread]
  rw [View.ld_unit_zero (S := S384x448) hz2, View.ld_unit_zero (S := S256x512) hz2, View.ld_unit_zero (S := S256x1) hz2,
    View.ld_unit_zero (S := S128x640) hz2, View.ld_unit_zero (S := S128x1) hz2, View.ld_unit_zero (S := S384x768) hz2,
    View.ld_unit_zero (S := S256x512) hz2, View.ld_unit_zero (S := S256x1) hz2, View.ld_unit_zero (S := S128x640) hz2,
    View.ld_unit_zero (S := S128x1) hz2, View.ld_unit_zero (S := S128x1) hz2, View.ld_unit_zero (S := S1x1) hz2]
  refine congrArg₂ Model.result (Model.Weights.mk.injEq .. ▸ ?_) rfl
  exact ⟨shapeCast_self (s := S384x448) x1 _, shapeCast_self (s := S256x512) x2 _, shapeCast_self (s := S256x1) x3 _, shapeCast_self (s := S128x640) x4 _, shapeCast_self (s := S128x1) x5 _, shapeCast_self (s := S384x768) x6 _, shapeCast_self (s := S256x512) x7 _, shapeCast_self (s := S256x1) x8 _, shapeCast_self (s := S128x640) x9 _, shapeCast_self (s := S128x1) x10 _, rfl, shapeCast_self (s := S1x1) x12 _⟩

variable (m : (ℓ : Loc nD τ sig) → Buf (Elt F) ℓ) (ρ : Dev nD → PrngReg) (c : Dev nD) (t : Fin cfg0.N)

theorem zero0 : ∀ t : Fin cfg0.N, ∀ a, win0_0.index t a * main_arg0.ty.shape.size a = 0 :=
  (by decide +kernel : ∀ t : Fin grid0.N, _)
theorem read0 (f : main_arg0.ty.Contents (Elt F)) : ((cfg0.win 0).blk t).view.read (Elt F) f = f :=
  Memref.read_access_unit_zero (Elt F) main_arg0
    (show (fun a => win0_0.index t a * main_arg0.ty.shape.size a) = fun _ => 0 from funext (zero0 t))
    (fun a => by have h := zero0 t a; show win0_0.index t a * main_arg0.ty.shape.size a + _ ≤ _; rw [h]; fin_cases a <;> decide) f
theorem zero1 : ∀ t : Fin cfg0.N, ∀ a, win0_1.index t a * main_v32.ty.shape.size a = 0 :=
  (by decide +kernel : ∀ t : Fin grid0.N, _)
theorem read1 (f : main_v32.ty.Contents (Elt F)) : ((cfg0.win 1).blk t).view.read (Elt F) f = f :=
  Memref.read_access_unit_zero (Elt F) main_v32
    (show (fun a => win0_1.index t a * main_v32.ty.shape.size a) = fun _ => 0 from funext (zero1 t))
    (fun a => by have h := zero1 t a; show win0_1.index t a * main_v32.ty.shape.size a + _ ≤ _; rw [h]; fin_cases a <;> decide) f
theorem zero2 : ∀ t : Fin cfg0.N, ∀ a, win0_2.index t a * main_v36.ty.shape.size a = 0 :=
  (by decide +kernel : ∀ t : Fin grid0.N, _)
theorem read2 (f : main_v36.ty.Contents (Elt F)) : ((cfg0.win 2).blk t).view.read (Elt F) f = f :=
  Memref.read_access_unit_zero (Elt F) main_v36
    (show (fun a => win0_2.index t a * main_v36.ty.shape.size a) = fun _ => 0 from funext (zero2 t))
    (fun a => by have h := zero2 t a; show win0_2.index t a * main_v36.ty.shape.size a + _ ≤ _; rw [h]; fin_cases a <;> decide) f
theorem zero3 : ∀ t : Fin cfg0.N, ∀ a, win0_3.index t a * main_v37.ty.shape.size a = 0 :=
  (by decide +kernel : ∀ t : Fin grid0.N, _)
theorem read3 (f : main_v37.ty.Contents (Elt F)) : ((cfg0.win 3).blk t).view.read (Elt F) f = f :=
  Memref.read_access_unit_zero (Elt F) main_v37
    (show (fun a => win0_3.index t a * main_v37.ty.shape.size a) = fun _ => 0 from funext (zero3 t))
    (fun a => by have h := zero3 t a; show win0_3.index t a * main_v37.ty.shape.size a + _ ≤ _; rw [h]; fin_cases a <;> decide) f
theorem zero4 : ∀ t : Fin cfg0.N, ∀ a, win0_4.index t a * main_v38.ty.shape.size a = 0 :=
  (by decide +kernel : ∀ t : Fin grid0.N, _)
theorem read4 (f : main_v38.ty.Contents (Elt F)) : ((cfg0.win 4).blk t).view.read (Elt F) f = f :=
  Memref.read_access_unit_zero (Elt F) main_v38
    (show (fun a => win0_4.index t a * main_v38.ty.shape.size a) = fun _ => 0 from funext (zero4 t))
    (fun a => by have h := zero4 t a; show win0_4.index t a * main_v38.ty.shape.size a + _ ≤ _; rw [h]; fin_cases a <;> decide) f
theorem zero5 : ∀ t : Fin cfg0.N, ∀ a, win0_5.index t a * main_v39.ty.shape.size a = 0 :=
  (by decide +kernel : ∀ t : Fin grid0.N, _)
theorem read5 (f : main_v39.ty.Contents (Elt F)) : ((cfg0.win 5).blk t).view.read (Elt F) f = f :=
  Memref.read_access_unit_zero (Elt F) main_v39
    (show (fun a => win0_5.index t a * main_v39.ty.shape.size a) = fun _ => 0 from funext (zero5 t))
    (fun a => by have h := zero5 t a; show win0_5.index t a * main_v39.ty.shape.size a + _ ≤ _; rw [h]; fin_cases a <;> decide) f
theorem zero6 : ∀ t : Fin cfg0.N, ∀ a, win0_6.index t a * main_v33.ty.shape.size a = 0 :=
  (by decide +kernel : ∀ t : Fin grid0.N, _)
theorem read6 (f : main_v33.ty.Contents (Elt F)) : ((cfg0.win 6).blk t).view.read (Elt F) f = f :=
  Memref.read_access_unit_zero (Elt F) main_v33
    (show (fun a => win0_6.index t a * main_v33.ty.shape.size a) = fun _ => 0 from funext (zero6 t))
    (fun a => by have h := zero6 t a; show win0_6.index t a * main_v33.ty.shape.size a + _ ≤ _; rw [h]; fin_cases a <;> decide) f
theorem zero7 : ∀ t : Fin cfg0.N, ∀ a, win0_7.index t a * main_v40.ty.shape.size a = 0 :=
  (by decide +kernel : ∀ t : Fin grid0.N, _)
theorem read7 (f : main_v40.ty.Contents (Elt F)) : ((cfg0.win 7).blk t).view.read (Elt F) f = f :=
  Memref.read_access_unit_zero (Elt F) main_v40
    (show (fun a => win0_7.index t a * main_v40.ty.shape.size a) = fun _ => 0 from funext (zero7 t))
    (fun a => by have h := zero7 t a; show win0_7.index t a * main_v40.ty.shape.size a + _ ≤ _; rw [h]; fin_cases a <;> decide) f
theorem zero8 : ∀ t : Fin cfg0.N, ∀ a, win0_8.index t a * main_v41.ty.shape.size a = 0 :=
  (by decide +kernel : ∀ t : Fin grid0.N, _)
theorem read8 (f : main_v41.ty.Contents (Elt F)) : ((cfg0.win 8).blk t).view.read (Elt F) f = f :=
  Memref.read_access_unit_zero (Elt F) main_v41
    (show (fun a => win0_8.index t a * main_v41.ty.shape.size a) = fun _ => 0 from funext (zero8 t))
    (fun a => by have h := zero8 t a; show win0_8.index t a * main_v41.ty.shape.size a + _ ≤ _; rw [h]; fin_cases a <;> decide) f
theorem zero9 : ∀ t : Fin cfg0.N, ∀ a, win0_9.index t a * main_v42.ty.shape.size a = 0 :=
  (by decide +kernel : ∀ t : Fin grid0.N, _)
theorem read9 (f : main_v42.ty.Contents (Elt F)) : ((cfg0.win 9).blk t).view.read (Elt F) f = f :=
  Memref.read_access_unit_zero (Elt F) main_v42
    (show (fun a => win0_9.index t a * main_v42.ty.shape.size a) = fun _ => 0 from funext (zero9 t))
    (fun a => by have h := zero9 t a; show win0_9.index t a * main_v42.ty.shape.size a + _ ≤ _; rw [h]; fin_cases a <;> decide) f
theorem zero10 : ∀ t : Fin cfg0.N, ∀ a, win0_10.index t a * main_v43.ty.shape.size a = 0 :=
  (by decide +kernel : ∀ t : Fin grid0.N, _)
theorem read10 (f : main_v43.ty.Contents (Elt F)) : ((cfg0.win 10).blk t).view.read (Elt F) f = f :=
  Memref.read_access_unit_zero (Elt F) main_v43
    (show (fun a => win0_10.index t a * main_v43.ty.shape.size a) = fun _ => 0 from funext (zero10 t))
    (fun a => by have h := zero10 t a; show win0_10.index t a * main_v43.ty.shape.size a + _ ≤ _; rw [h]; fin_cases a <;> decide) f
theorem zero11 : ∀ t : Fin cfg0.N, ∀ a, win0_11.index t a * main_arg9.ty.shape.size a = 0 :=
  (by decide +kernel : ∀ t : Fin grid0.N, _)
theorem read11 (f : main_arg9.ty.Contents (Elt F)) : ((cfg0.win 11).blk t).view.read (Elt F) f = f :=
  Memref.read_access_unit_zero (Elt F) main_arg9
    (show (fun a => win0_11.index t a * main_arg9.ty.shape.size a) = fun _ => 0 from funext (zero11 t))
    (fun a => by have h := zero11 t a; show win0_11.index t a * main_arg9.ty.shape.size a + _ ≤ _; rw [h]; fin_cases a <;> decide) f
theorem zero12 : ∀ t : Fin cfg0.N, ∀ a, win0_12.index t a * main_v44.ty.shape.size a = 0 :=
  (by decide +kernel : ∀ t : Fin grid0.N, _)
theorem read12 (f : main_v44.ty.Contents (Elt F)) : ((cfg0.win 12).blk t).view.read (Elt F) f = f :=
  Memref.read_access_unit_zero (Elt F) main_v44
    (show (fun a => win0_12.index t a * main_v44.ty.shape.size a) = fun _ => 0 from funext (zero12 t))
    (fun a => by have h := zero12 t a; show win0_12.index t a * main_v44.ty.shape.size a + _ ≤ _; rw [h]; fin_cases a <;> decide) f
theorem zero13 : ∀ t : Fin cfg0.N, ∀ a, win0_13.index t a * main_v45.ty.shape.size a = 0 :=
  (by decide +kernel : ∀ t : Fin grid0.N, _)
theorem read13 (f : main_v45.ty.Contents (Elt F)) : ((cfg0.win 13).blk t).view.read (Elt F) f = f :=
  Memref.read_access_unit_zero (Elt F) main_v45
    (show (fun a => win0_13.index t a * main_v45.ty.shape.size a) = fun _ => 0 from funext (zero13 t))
    (fun a => by have h := zero13 t a; show win0_13.index t a * main_v45.ty.shape.size a + _ ≤ _; rw [h]; fin_cases a <;> decide) f

/-- At the one point each window's block is its whole array. -/
theorem block0 : iblk m c 0 t = V m c main_arg0 := read0 t _
theorem block1 : iblk m c 1 t = V m c main_v32 := read1 t _
theorem block2 : iblk m c 2 t = V m c main_v36 := read2 t _
theorem block3 : iblk m c 3 t = V m c main_v37 := read3 t _
theorem block4 : iblk m c 4 t = V m c main_v38 := read4 t _
theorem block5 : iblk m c 5 t = V m c main_v39 := read5 t _
theorem block6 : iblk m c 6 t = V m c main_v33 := read6 t _
theorem block7 : iblk m c 7 t = V m c main_v40 := read7 t _
theorem block8 : iblk m c 8 t = V m c main_v41 := read8 t _
theorem block9 : iblk m c 9 t = V m c main_v42 := read9 t _
theorem block10 : iblk m c 10 t = V m c main_v43 := read10 t _
theorem block11 : iblk m c 11 t = V m c main_arg9 := read11 t _
theorem block12 : iblk m c 12 t = V m c main_v44 := read12 t _

/-- The weights as the region finds them. -/
def weights : Model.Weights F :=
  ⟨V m c main_v32, V m c main_v36, V m c main_v37, V m c main_v38, V m c main_v39, V m c main_v33, V m c main_v40, V m c main_v41, V m c main_v42, V m c main_v43, V m c main_arg9, V m c main_v44⟩

/-- The model's result of the arrays the region finds. -/
def final : FVec F S16x1x128 .f32 := Model.result (weights m c) fun b => Model.series (batch (V m c main_arg0) b)

theorem flushed_eq : (dats m 0 c).flushed 13 t = ((cfg0.win 13).blk t).view.read (Elt F) (final m c) := by
  rw [flushed13_A, out_eq, block0, block1, block2, block3, block4, block5, block6, block7, block8, block9, block10, block11, block12, read13]
  exact funext fun _ => rfl

/-- The result array after the run. -/
theorem arr_eq : (dats m 0 c).arrAt 13 cfg0.N = final m c :=
  (read13 t0_0 _).symm.trans ((blocks13 m c t0_0 (flush0_13 t0_0)).trans ((flushed_eq m c t0_0).trans (read13 t0_0 _)))

end Cert.KernelIdeal.Final

end
-- ==== Proof.Read.lean ====
module

public import proofs.«01_k».proof.Proof.Model
public import proofs.«01_k».proof.Proof.Spec
public import Idealize.ShloMosaic.Lib.Pointwise
public import Idealize.ShloMosaic.Lib.Pointwise.IndexVar
public import Idealize.ShloMosaic.Lib.Pipeline.Value

/-! The kernel's whole-array functions read at an index: blocks, products, pieces side by side, and the
    diffusions of a state along one batch row. -/

@[expose] public section

set_option synthInstance.maxSize 4096

noncomputable section

namespace Cert.KernelIdeal.Model

open Idealize.ShloMosaic Cert.Spec

/-- The column of node `n` at batch row `i`. -/
def col (i : Fin 16) (n : Fin 128) : Fin 2048 := ⟨128 * i + n, by omega⟩

/-- The column of node `n` in the `k`-th of a row's four matrices. -/
def sub (k : Fin 4) (n : Fin 128) : Fin 512 := ⟨128 * k + n, by omega⟩

/-- Batch row `i` of a state: the nodes and their features. -/
def rd {R : ℕ} (v : M Ideal R 2048) (i : Fin 16) (n : Fin 128) (r : Fin R) : EReal := v (ix2 r (col i n))

/-- A block of a matrix at an index. -/
theorem blk_apply {R C r c a b : ℕ} (v : M Ideal R C) (h : a + r ≤ R) (h' : b + c ≤ C) (i : Fin r) (j : Fin c) :
    blk r c a b v h h' (ix2 i j) = v (ix2 ⟨a + i, by omega⟩ ⟨b + j, by omega⟩) := by
  unfold blk
  unfold extractStridedSlice
  refine congrArg v (funext fun d => ?_)
  match d with
  | ⟨0, _⟩ => rfl
  | ⟨1, _⟩ => rfl

/-- A block of whole rows along one batch row. -/
theorem rd_blk {R r a : ℕ} (v : M Ideal R 2048) (h : a + r ≤ R) (h' : 0 + 2048 ≤ 2048) (i : Fin 16) (n : Fin 128) (f : Fin r) :
    rd (blk r 2048 a 0 v h h') i n f = rd v i n ⟨a + f, by omega⟩ :=
  (blk_apply v h h' f (col i n)).trans (congrArg (fun c => v (ix2 ⟨a + f, by omega⟩ c)) (Fin.ext (Nat.zero_add _)))

/-- A product of matrices at an index. -/
theorem mm_apply {R K C : ℕ} (a : M Ideal R K) (b : M Ideal K C) (i : Fin R) (j : Fin C) :
    mm a b (ix2 i j) = ∑ k, a (ix2 i k) * b (ix2 k j) := by
  have h := Ideal.matmul_plain_apply none a b (zeroM R C) i j
  refine Eq.trans h ?_
  rw [show zeroM (F := Ideal) R C (ValueIdx.ix2 i j) = 0 from Ideal.ofBits_zero_f32, zero_add]
  rfl

theorem rd_mm {R K : ℕ} (a : M Ideal R K) (b : M Ideal K 2048) (i : Fin 16) (n : Fin 128) (r : Fin R) :
    rd (mm a b) i n r = ∑ k, a (ix2 r k) * rd b i n k := mm_apply a b r (col i n)

/-- Sixteen blocks side by side, read in one of them. -/
theorem rd_cat16 {R : ℕ} (f : Fin 16 → M Ideal R 128) (i : Fin 16) (n : Fin 128) (r : Fin R) :
    rd (cat16 f) i n r = f i (ix2 r n) := by
  unfold rd cat16
  refine concatenate_ofFn_apply (t := ⟨2, ![R, 2048]⟩) (s₁ := ⟨2, ![R, 128]⟩) 1 f (concat16 R) rfl 128 rfl
    (ix2 r (col i n)) i ?_ (ix2 r n) ?_ ?_
  · show (128 * i.val + n.val) / 128 = i.val
    omega
  · show n.val = (128 * i.val + n.val) % 128
    omega
  · intro b hb
    match b with
    | ⟨0, _⟩ => rfl
    | ⟨1, _⟩ => exact absurd rfl hb

/-- The four matrices of a batch row. -/
def four (v : M Ideal 768 128) : Fin 4 → M Ideal 128 128 :=
  ![sup0 (adj (centred v)), order2 (sup0 (adj (centred v))), sup1 (adj (centred v)), order2 (sup1 (adj (centred v)))]

/-- The four matrices side by side, read in one of them. -/
theorem supports_apply (v : M Ideal 768 128) (k : Fin 4) (r n : Fin 128) :
    supports v (ix2 r (sub k n)) = four v k (ix2 r n) := by
  unfold supports
  refine concatenate_ofFn_apply (t := S128x512) (s₁ := S128x128) 1 (four v) concats512 rfl 128 rfl
    (ix2 r (sub k n)) k ?_ (ix2 r n) ?_ ?_
  · show (128 * k.val + n.val) / 128 = k.val
    omega
  · show n.val = (128 * k.val + n.val) % 128
    omega
  · intro b hb
    match b with
    | ⟨0, _⟩ => rfl
    | ⟨1, _⟩ => exact absurd rfl hb

theorem rd_cat5 (f : Fin 5 → M Ideal 128 2048) (i : Fin 16) (n : Fin 128) (m : Fin 5) (c : Fin 128) :
    rd (cat5 (f 0) (f 1) (f 2) (f 3) (f 4)) i n (row (a := 5) 128 m c) = rd (f m) i n c := by
  unfold rd cat5
  refine concatenate_ofFn_apply (t := S640x2048) (s₁ := S128x2048) 0 f concats640 rfl 128 rfl
    (ix2 (row (a := 5) 128 m c) (col i n)) m ?_ (ix2 c (col i n)) ?_ ?_
  · show (128 * m.val + c.val) / 128 = m.val
    omega
  · show c.val = (128 * m.val + c.val) % 128
    omega
  · intro b hb
    match b with
    | ⟨0, _⟩ => exact absurd rfl hb
    | ⟨1, _⟩ => rfl

theorem rd_cat4 (f : Fin 4 → M Ideal 128 2048) (i : Fin 16) (n : Fin 128) (m : Fin 4) (c : Fin 128) :
    rd (cat4 (f 0) (f 1) (f 2) (f 3)) i n (row (a := 4) 128 m c) = rd (f m) i n c := by
  unfold rd cat4
  refine concatenate_ofFn_apply (t := S512x2048) (s₁ := S128x2048) 0 f concats4 rfl 128 rfl
    (ix2 (row (a := 4) 128 m c) (col i n)) m ?_ (ix2 c (col i n)) ?_ ?_
  · show (128 * m.val + c.val) / 128 = m.val
    omega
  · show c.val = (128 * m.val + c.val) % 128
    omega
  · intro b hb
    match b with
    | ⟨0, _⟩ => exact absurd rfl hb
    | ⟨1, _⟩ => rfl

/-- Five blocks of 64 rows, read in one of them. -/
theorem rd_cat5x (f : Fin 5 → M Ideal 64 2048) (i : Fin 16) (n : Fin 128) (m : Fin 5) (c : Fin 64) :
    rd (concatenate S320x2048 0 [⟨S64x2048, f 0⟩, ⟨S64x2048, f 1⟩, ⟨S64x2048, f 2⟩, ⟨S64x2048, f 3⟩, ⟨S64x2048, f 4⟩]
      concats320) i n (row (a := 5) 64 m c) = rd (f m) i n c := by
  unfold rd
  refine concatenate_ofFn_apply (t := S320x2048) (s₁ := S64x2048) 0 f concats320 rfl 64 rfl
    (ix2 (row (a := 5) 64 m c) (col i n)) m ?_ (ix2 c (col i n)) ?_ ?_
  · show (64 * m.val + c.val) / 64 = m.val
    omega
  · show c.val = (64 * m.val + c.val) % 64
    omega
  · intro b hb
    match b with
    | ⟨0, _⟩ => exact absurd rfl hb
    | ⟨1, _⟩ => rfl

/-- Two blocks of rows, read in the upper one and in the lower one. -/
theorem rd_pair {a b : ℕ} (u : M Ideal a 2048) (v : M Ideal b 2048)
    (h : Shape.Concatenates [⟨2, ![a, 2048]⟩, ⟨2, ![b, 2048]⟩] ⟨2, ![a + b, 2048]⟩ 0) (i : Fin 16) (n : Fin 128) :
    (∀ c : Fin a, rd (R := a + b) (concatenate ⟨2, ![a + b, 2048]⟩ 0 [⟨⟨2, ![a, 2048]⟩, u⟩, ⟨⟨2, ![b, 2048]⟩, v⟩] h) i n (left c) = rd u i n c)
    ∧ ∀ c : Fin b, rd (R := a + b) (concatenate ⟨2, ![a + b, 2048]⟩ 0 [⟨⟨2, ![a, 2048]⟩, u⟩, ⟨⟨2, ![b, 2048]⟩, v⟩] h) i n (right c) = rd v i n c := by
  unfold rd
  refine ⟨fun c => ?_, fun c => ?_⟩
  · refine concatenate_pair_apply_left (t := ⟨2, ![a + b, 2048]⟩) (s₁ := ⟨2, ![a, 2048]⟩) (s₂ := ⟨2, ![b, 2048]⟩) 0 u v h
      (ix2 (left c) (col i n)) rfl (ix2 c (col i n)) fun e => ?_
    match e with
    | ⟨0, _⟩ => rfl
    | ⟨1, _⟩ => rfl
  · refine concatenate_pair_apply_right (t := ⟨2, ![a + b, 2048]⟩) (s₁ := ⟨2, ![a, 2048]⟩) (s₂ := ⟨2, ![b, 2048]⟩) 0 u v h
      (ix2 (right c) (col i n)) rfl rfl (ix2 c (col i n)) (fun e he => ?_) (Nat.add_comm _ _)
    match e with
    | ⟨0, _⟩ => exact absurd rfl he
    | ⟨1, _⟩ => rfl

section Step

variable (S : Fin 16 → M Ideal 128 512)

/-- A diffusion of a state along one batch row. -/
theorem rd_diffuse {R : ℕ} (v : M Ideal R 2048) (k : Fin 4) (i : Fin 16) (n : Fin 128) (r : Fin R) :
    rd (diffuse S v k) i n r = ∑ j, rd v i j r * S i (ix2 j (sub k n)) := by
  unfold diffuse
  rw [rd_cat16, blk_apply]
  unfold prods
  rw [mm_apply]
  refine Finset.sum_congr rfl fun j _ => ?_
  rw [blk_apply]
  have e : (⟨0 + r.val, by omega⟩ : Fin R) = r := Fin.ext (Nat.zero_add _)
  have e' : ∀ h, (⟨0 + (⟨0 + r.val, h⟩ : Fin R).val, by omega⟩ : Fin R) = r := fun _ => Fin.ext (by simp)
  rw [e']
  rfl

variable (X : Fin 16 → M Ideal 768 128)

/-- The series' row of feature `c` at time step `t`. -/
def at' (t : Fin 12) (c : Fin 64) : Fin 768 := ⟨64 * t + c, by omega⟩

theorem rd_input (t : Fin 12) (i : Fin 16) (n : Fin 128) (c : Fin 64) :
    rd (input X t) i n c = X i (ix2 (at' t c) n) := by
  unfold input
  rw [rd_cat16, blk_apply]
  exact congrArg (X i) (congrArg (ix2 _) (Fin.ext (Nat.zero_add _)))

/-- A diffusion of the inputs along one batch row. -/
theorem rd_inputDiff (t : Fin 12) (k : Fin 4) (i : Fin 16) (n : Fin 128) (c : Fin 64) :
    rd (inputDiff S X t k) i n c = ∑ j, X i (ix2 (at' t c) j) * S i (ix2 j (sub k n)) := by
  unfold inputDiff
  rw [rd_cat16, blk_apply]
  unfold xprods
  rw [mm_apply]
  refine Finset.sum_congr rfl fun j _ => ?_
  rw [blk_apply]
  refine congrArg₂ (· * ·) (congrArg (X i) (congrArg₂ ix2 (Fin.ext ?_) (Fin.ext (Nat.zero_add _)))) rfl
  show 256 * (t.val / 4) + (64 * (t.val % 4) + c.val) = 64 * t.val + c.val
  omega

end Step

end Cert.KernelIdeal.Model
-- ==== Proof.Layer.lean ====
module

public import proofs.«01_k».proof.Proof.Read

/-! One gated cell of the kernel is the cell of the mathematics: along each batch row, the products with the
    stacked weights regroup into the sums over the five diffusions. -/

@[expose] public section

set_option synthInstance.maxSize 4096

noncomputable section

namespace Cert.KernelIdeal.Model

open Idealize.ShloMosaic Cert.Spec

/-- A gate's row among the rows of the inputs' product. -/
def gateRow (o : Fin 256) : Fin 384 := ⟨o, by omega⟩

/-- A candidate feature's row among the rows of the inputs' product. -/
def candRow (f : Fin 128) : Fin 384 := ⟨256 + f, by omega⟩

/-- What the kernel's stacked weights of a layer hold of the cell's weights. -/
structure Holds {D : ℕ} (p : Cell D) (wi : M Ideal 384 (5 * D + 128)) (wg : M Ideal 256 512) (bg : M Ideal 256 1)
    (wc : M Ideal 128 640) (bc : M Ideal 128 1) : Prop where
  gate_in : ∀ o m c, wi (ix2 (gateRow o) (left (row D m c))) = p.wg o m c
  gate_first : ∀ o f, wi (ix2 (gateRow o) (right f)) = p.vg o 0 f
  cand_in : ∀ f m c, wi (ix2 (candRow f) (left (row D m c))) = p.wc f m c
  cand_zero : ∀ f f', wi (ix2 (candRow f) (right f')) = 0
  gate_st : ∀ o m f, wg (ix2 o (row (a := 4) 128 m f)) = p.vg o m.succ f
  cand_st : ∀ f m f', wc (ix2 f (row (a := 5) 128 m f')) = p.vc f m f'
  gate_b : ∀ o, bg (ix2 o 0) = p.bg o
  cand_b : ∀ f, bc (ix2 f 0) = p.bc f

/-- The four matrices of a batch row make the diffusions of real signals. -/
def Diffuses (S : M Ideal 128 512) (A B : Mat) : Prop :=
  ∀ (k : Fin 4) (n : Fin 128) (y : Fin 128 → EReal), (∀ j, Fin' (y j)) →
    ∑ j, y j * S (ix2 j (sub k n)) = dif A B k.succ y n

theorem dif_zero (A B : Mat) (m : Fin 5) (n : Fin 128) : dif A B m (fun _ => 0) n = 0 := by
  match m with
  | 0 => rfl
  | 1 => simp [dif]
  | 2 => simp [dif]
  | 3 => simp [dif]
  | 4 => simp [dif]

theorem rd_gates (ipg : M Ideal 384 2048) (d : Fin 4 → M Ideal 128 2048) (wg : M Ideal 256 512) (bg : M Ideal 256 1)
    (i : Fin 16) (n : Fin 128) (o : Fin 256) :
    rd (gates ipg d wg bg) i n o
      = Ideal.logistic ((rd ipg i n (gateRow o) + ∑ m, ∑ f, wg (ix2 o (row (a := 4) 128 m f)) * rd (d m) i n f) + bg (ix2 o 0)) := by
  have h2 : mm wg (cat4 (d 0) (d 1) (d 2) (d 3)) (ix2 o (col i n))
      = ∑ m, ∑ f, wg (ix2 o (row (a := 4) 128 m f)) * rd (d m) i n f := by
    rw [mm_apply]
    refine (sum_row (a := 4) (n := 128) _).trans (Finset.sum_congr rfl fun m _ => Finset.sum_congr rfl fun f _ => ?_)
    exact congrArg (wg (ix2 o (row (a := 4) 128 m f)) * ·) (rd_cat4 d i n m f)
  have h1 : (blk 256 2048 0 0 ipg) (ix2 o (col i n)) = rd ipg i n (gateRow o) := by
    rw [blk_apply]
    exact congrArg ipg (congrArg₂ ix2 (Fin.ext (Nat.zero_add _)) (Fin.ext (Nat.zero_add _)))
  have h3 : (broadcastTo S256x2048 bg) (ix2 o (col i n)) = bg (ix2 o 0) := by pointwise
  unfold rd gates
  exact congrArg Ideal.logistic (congrArg₂ (· + ·) (congrArg₂ (· + ·) h1 h2) h3)

theorem rd_candidate (S : Fin 16 → M Ideal 128 512) (ipg : M Ideal 384 2048) (rh : M Ideal 128 2048) (wc : M Ideal 128 640)
    (bc : M Ideal 128 1) (i : Fin 16) (n f : Fin 128) :
    rd (candidate S ipg rh wc bc) i n f
      = Ideal.tanh ((rd ipg i n (candRow f) + ∑ m, ∑ f', wc (ix2 f (row (a := 5) 128 m f'))
          * rd ((Fin.cons rh (diffuse S rh) : Fin 5 → M Ideal 128 2048) m) i n f') + bc (ix2 f 0)) := by
  have h2 : mm wc (withDiff rh (diffuse S rh)) (ix2 f (col i n))
      = ∑ m, ∑ f', wc (ix2 f (row (a := 5) 128 m f')) * rd ((Fin.cons rh (diffuse S rh) : Fin 5 → M Ideal 128 2048) m) i n f' := by
    rw [mm_apply]
    refine (sum_row (a := 5) (n := 128) _).trans (Finset.sum_congr rfl fun m _ => Finset.sum_congr rfl fun f' _ => ?_)
    exact congrArg (wc (ix2 f (row (a := 5) 128 m f')) * ·) (rd_cat5 (Fin.cons rh (diffuse S rh)) i n m f')
  have h1 : (blk 128 2048 256 0 ipg) (ix2 f (col i n)) = rd ipg i n (candRow f) := by
    rw [blk_apply]
    exact congrArg ipg (congrArg₂ ix2 rfl (Fin.ext (Nat.zero_add _)))
  have h3 : (broadcastTo S128x2048 bc) (ix2 f (col i n)) = bc (ix2 f 0) := by pointwise
  unfold rd candidate
  exact congrArg Ideal.tanh (congrArg₂ (· + ·) (congrArg₂ (· + ·) h1 h2) h3)

section Cell

variable {D : ℕ} {p : Cell D} {wi : M Ideal 384 (5 * D + 128)} {wg : M Ideal 256 512} {bg : M Ideal 256 1}
  {wc : M Ideal 128 640} {bc : M Ideal 128 1} (H : Holds p wi wg bg wc bc) {A B : Mat} {x : Fin 128 → Fin D → EReal}
  {i : Fin 16}

include H

/-- The inputs' product, at a gate and at a candidate feature. -/
theorem rd_product {V : M Ideal (5 * D + 128) 2048} {h : Mat} (n : Fin 128)
    (hV : ∀ m c, rd V i n (left (row D m c)) = dif A B m (fun j => x j c) n) (hh : ∀ f, rd V i n (right f) = h n f) :
    (∀ o, rd (mm wi V) i n (gateRow o)
      = ∑ m, ∑ c, dif A B m (fun j => x j c) n * p.wg o m c + ∑ f, h n f * p.vg o 0 f)
    ∧ ∀ f, rd (mm wi V) i n (candRow f) = ∑ m, ∑ c, dif A B m (fun j => x j c) n * p.wc f m c := by
  refine ⟨fun o => ?_, fun f => ?_⟩
  · rw [rd_mm, sum_left_right, sum_row]
    simp only [hV, hh, H.gate_in, H.gate_first, mul_comm]
  · rw [rd_mm, sum_left_right, sum_row]
    simp only [hV, hh, H.cand_in, H.cand_zero, zero_mul, mul_zero, Finset.sum_const_zero, add_zero, mul_comm]

/-- One gated cell along one batch row. -/
theorem rd_gru {S : Fin 16 → M Ideal 128 512} (hS : Diffuses (S i) A B) {V : M Ideal (5 * D + 128) 2048}
    {h : M Ideal 128 2048} {d : Fin 4 → M Ideal 128 2048} (hf : ∀ n f, Fin' (rd h i n f))
    (hV : ∀ n m c, rd V i n (left (row D m c)) = dif A B m (fun j => x j c) n)
    (hh : ∀ n f, rd V i n (right f) = rd h i n f)
    (hd : ∀ k n f, rd (d k) i n f = dif A B k.succ (fun j => rd h i j f) n) :
    rd (gru S (mm wi V) h d wg bg wc bc) i = p.next A B x (rd h i) := by
  have hg : ∀ n o, rd (gates (mm wi V) d wg bg) i n o = p.gate A B x (rd h i) o n := by
    intro n o
    rw [rd_gates, (rd_product H n (hV n) (hh n)).1]
    unfold Cell.gate pre
    simp only [H.gate_st, hd, H.gate_b]
    refine congrArg Ideal.logistic (congrArg (· + p.bg o) ?_)
    rw [Finset.sum_add_distrib, add_assoc]
    refine congrArg (_ + ·) ?_
    rw [Fin.sum_univ_succ (n := 4)]
    refine congrArg₂ (· + ·) rfl ?_
    simp only [mul_comm]
  have hr : ∀ n f, rd (reset (gates (mm wi V) d wg bg) h) i n f = p.reset A B x (rd h i) n f := by
    intro n f
    have e : rd (reset (gates (mm wi V) d wg bg) h) i n f = rd (gates (mm wi V) d wg bg) i n (lo f) * rd h i n f := by
      unfold rd reset
      refine congrArg (· * h (ix2 f (col i n))) ?_
      refine (blk_apply _ _ _ _ _).trans (congrArg _ (congrArg₂ ix2 (Fin.ext (Nat.zero_add _)) (Fin.ext (Nat.zero_add _))))
    rw [e, hg]
    rfl
  have hrf : ∀ n f, Fin' (rd (reset (gates (mm wi V) d wg bg) h) i n f) := fun n f => by
    rw [hr]; exact fin_reset _ _ _ _ _ hf n f
  have hc : ∀ n f, rd (candidate S (mm wi V) (reset (gates (mm wi V) d wg bg) h) wc bc) i n f
      = p.cand A B x (p.reset A B x (rd h i)) n f := by
    intro n f
    rw [rd_candidate, (rd_product H n (hV n) (hh n)).2]
    unfold Cell.cand pre
    simp only [H.cand_st, H.cand_b]
    refine congrArg Ideal.tanh (congrArg (· + p.bc f) ?_)
    rw [Finset.sum_add_distrib]
    refine congrArg (_ + ·) (Finset.sum_congr rfl fun m _ => Finset.sum_congr rfl fun f' _ => ?_)
    rw [mul_comm]
    refine congrArg (· * p.vc f m f') ?_
    refine Fin.cases ?_ (fun k => ?_) m
    · exact hr n f'
    · rw [Fin.cons_succ, rd_diffuse, hS k n _ fun j => hrf j f']
      exact congrArg (fun y => dif A B k.succ y n) (funext fun j => hr j f')
  funext n f
  have e : rd (gru S (mm wi V) h d wg bg wc bc) i n f
      = rd (gates (mm wi V) d wg bg) i n (hi f) * rd h i n f
        + (1 - rd (gates (mm wi V) d wg bg) i n (hi f)) * rd (candidate S (mm wi V) (reset (gates (mm wi V) d wg bg) h) wc bc) i n f := by
    have eu : (blk 128 2048 128 0 (gates (mm wi V) d wg bg)) (ix2 f (col i n)) = rd (gates (mm wi V) d wg bg) i n (hi f) :=
      (blk_apply _ _ _ _ _).trans (congrArg _ (congrArg₂ ix2 rfl (Fin.ext (Nat.zero_add _))))
    unfold gru mix
    refine congrArg₂ (· + ·) (congrArg (· * h (ix2 f (col i n))) eu) (congrArg (· * _) ?_)
    exact congrArg₂ (fun a b : EReal => a - b) Ideal.ofBits_one_f32 eu
  rw [e, hg, hc]
  rfl

/-- The cell from the zero state along one batch row: the inputs' product alone. -/
theorem rd_gruZero {V : M Ideal (5 * D) 2048} (h : 0 + 384 ≤ 384) (h' : 0 + 5 * D ≤ 5 * D + 128)
    (hV : ∀ n m c, rd V i n (row D m c) = dif A B m (fun j => x j c) n) :
    rd (gruZero (mm (blk 384 (5 * D) 0 0 wi h h') V) bg bc) i = p.next A B x (fun _ _ => 0) := by
  have hp : ∀ n (r : Fin 384), rd (mm (blk 384 (5 * D) 0 0 wi h h') V) i n r
      = ∑ m, ∑ c, wi (ix2 r (left (row D m c))) * dif A B m (fun j => x j c) n := by
    intro n r
    rw [rd_mm, sum_row]
    refine Finset.sum_congr rfl fun m _ => Finset.sum_congr rfl fun c _ => ?_
    rw [hV, blk_apply]
    exact congrArg (· * dif A B m (fun j => x j c) n)
      (congrArg wi (congrArg₂ ix2 (Fin.ext (Nat.zero_add _)) (Fin.ext (Nat.zero_add _))))
  have hz : ∀ (w : Fin 5 → Fin D → EReal) (v : Fin 5 → Fin 128 → EReal) (b : EReal) n,
      pre A B w v b x (fun _ _ => 0) n = (∑ m, ∑ c, dif A B m (fun j => x j c) n * w m c) + b := by
    intro w v b n
    unfold pre
    simp only [dif_zero, zero_mul, Finset.sum_const_zero, add_zero]
  funext n f
  have b1 : ∀ h h', (broadcastTo S128x2048 (blk 128 1 128 0 bg h h')) (ix2 f (col i n)) = bg (ix2 (hi f) 0) := by
    intro h h'
    refine Eq.trans (b := blk 128 1 128 0 bg h h' (ix2 f 0)) ?_ ?_
    · pointwise
    · exact blk_apply _ _ _ _ _
  have b2 : (broadcastTo S128x2048 bc) (ix2 f (col i n)) = bc (ix2 f 0) := by pointwise
  have e : rd (gruZero (mm (blk 384 (5 * D) 0 0 wi h h') V) bg bc) i n f
      = (1 - Ideal.logistic (rd (mm (blk 384 (5 * D) 0 0 wi h h') V) i n (gateRow (hi f)) + bg (ix2 (hi f) 0)))
        * Ideal.tanh (rd (mm (blk 384 (5 * D) 0 0 wi h h') V) i n (candRow f) + bc (ix2 f 0)) := by
    unfold gruZero
    refine congrArg₂ (· * ·) (congrArg₂ (fun a b : EReal => a - b) Ideal.ofBits_one_f32
      (congrArg Ideal.logistic (congrArg₂ (· + ·) ?_ (b1 _ _)))) (congrArg Ideal.tanh (congrArg₂ (· + ·) ?_ b2))
    · exact (blk_apply _ _ _ _ _).trans (congrArg _ (congrArg₂ ix2 rfl (Fin.ext (Nat.zero_add _))))
    · exact (blk_apply _ _ _ _ _).trans (congrArg _ (congrArg₂ ix2 rfl (Fin.ext (Nat.zero_add _))))
  rw [e, hp, hp]
  unfold Cell.next Cell.gate Cell.cand
  have hr : p.reset A B x (fun _ _ => 0) = fun _ _ => 0 := by
    funext n f
    exact mul_zero _
  rw [hr, hz, hz, mul_zero, zero_add]
  simp only [H.gate_in, H.cand_in, H.gate_b, H.cand_b, mul_comm]

end Cell

end Cert.KernelIdeal.Model
-- ==== Proof.HostRead.lean ====
module

public import proofs.«01_k».proof.Proof.KernelValue
public import proofs.«01_k».proof.Proof.Layer
public import proofs.«01_k».proof.Proof.RefStack
public import Idealize.ShloMosaic.Lib.Claim
public import Idealize.ShloMosaic.Lib.Pointwise
public import Idealize.ShloMosaic.Lib.StableHlo.ReadAt

/-! What the host operations before the kernel leave in its weights: the two layers' cells. -/

@[expose] public section

set_option maxRecDepth 100000

noncomputable section

namespace Cert.KernelIdeal.Final

open Cert.KernelIdeal.Gen Idealize.ShloMosaic Idealize.ShloMosaic.TcCoe Idealize.SL.Sem
open Cert.Spec Cert.KernelIdeal.Model

/-- Two matrices side by side, read in the first. -/
theorem beside_left {r a b d : ℕ} (u : M Ideal r a) (v : M Ideal r b)
    (h : Shape.Concatenates [⟨2, ![r, a]⟩, ⟨2, ![r, b]⟩] ⟨2, ![r, d]⟩ 1) (i : Fin r) (q : Fin d) (j : Fin a) (hq : q.val = j.val) :
    concatenate ⟨2, ![r, d]⟩ 1 [⟨⟨2, ![r, a]⟩, u⟩, ⟨⟨2, ![r, b]⟩, v⟩] h (ix2 i q) = u (ix2 i j) := by
  refine concatenate_pair_apply_left (t := ⟨2, ![r, d]⟩) (s₁ := ⟨2, ![r, a]⟩) (s₂ := ⟨2, ![r, b]⟩) 1 u v h
    (ix2 i q) rfl (ix2 i j) fun e => ?_
  match e with
  | ⟨0, _⟩ => rfl
  | ⟨1, _⟩ => exact hq.symm

/-- Two matrices side by side, read in the second. -/
theorem beside_right {r a b d : ℕ} (u : M Ideal r a) (v : M Ideal r b)
    (h : Shape.Concatenates [⟨2, ![r, a]⟩, ⟨2, ![r, b]⟩] ⟨2, ![r, d]⟩ 1) (i : Fin r) (q : Fin d) (j : Fin b) (hq : q.val = a + j.val) :
    concatenate ⟨2, ![r, d]⟩ 1 [⟨⟨2, ![r, a]⟩, u⟩, ⟨⟨2, ![r, b]⟩, v⟩] h (ix2 i q) = v (ix2 i j) := by
  refine concatenate_pair_apply_right (t := ⟨2, ![r, d]⟩) (s₁ := ⟨2, ![r, a]⟩) (s₂ := ⟨2, ![r, b]⟩) 1 u v h
    (ix2 i q) rfl rfl (ix2 i j) (fun e he => ?_) ((Nat.add_comm _ _).trans hq.symm)
  match e with
  | ⟨0, _⟩ => rfl
  | ⟨1, _⟩ => exact absurd rfl he

/-- A transposed matrix at an index. -/
theorem turned {r a : ℕ} (u : M Ideal r a) (h : Shape.Transposes ⟨2, ![r, a]⟩ [1, 0] ⟨2, ![a, r]⟩) (i : Fin a) (j : Fin r) :
    transpose ⟨2, ![a, r]⟩ [1, 0] u h (ix2 i j) = u (ix2 j i) := by
  pointwise

section Stack

variable {P : ℕ} (x : M Ideal P 256) (y : M Ideal P 128) (f : M Ideal 128 256) (z : M Ideal 128 128)
  (h1 : Shape.Concatenates [⟨2, ![P, 256]⟩, ⟨2, ![P, 128]⟩] ⟨2, ![P, 384]⟩ 1)
  (h2 : Shape.Transposes ⟨2, ![P, 384]⟩ [1, 0] ⟨2, ![384, P]⟩)
  (h3 : Shape.Concatenates [⟨2, ![128, 256]⟩, ⟨2, ![128, 128]⟩] ⟨2, ![128, 384]⟩ 1)
  (h4 : Shape.Transposes ⟨2, ![128, 384]⟩ [1, 0] ⟨2, ![384, 128]⟩)
  (h5 : Shape.Concatenates [⟨2, ![384, P]⟩, ⟨2, ![384, 128]⟩] ⟨2, ![384, P + 128]⟩ 1)

/-- The weights of the inputs' product: the inputs' columns, then the columns of the undiffused state. -/
def stack : M Ideal 384 (P + 128) :=
  concatenate ⟨2, ![384, P + 128]⟩ 1
    [⟨⟨2, ![384, P]⟩, transpose ⟨2, ![384, P]⟩ [1, 0] (concatenate ⟨2, ![P, 384]⟩ 1 [⟨⟨2, ![P, 256]⟩, x⟩, ⟨⟨2, ![P, 128]⟩, y⟩] h1) h2⟩,
      ⟨⟨2, ![384, 128]⟩, transpose ⟨2, ![384, 128]⟩ [1, 0] (concatenate ⟨2, ![128, 384]⟩ 1 [⟨⟨2, ![128, 256]⟩, f⟩, ⟨⟨2, ![128, 128]⟩, z⟩] h3) h4⟩] h5

theorem stack_gate_in (o : Fin 256) (q : Fin P) : stack x y f z h1 h2 h3 h4 h5 (ix2 (gateRow o) (left q)) = x (ix2 q o) := by
  unfold stack
  exact (beside_left (d := P + 128) _ _ h5 (gateRow o) (left q) q rfl).trans
    ((turned _ h2 (gateRow o) q).trans (beside_left x y h1 q (gateRow o) o rfl))
theorem stack_cand_in (o : Fin 128) (q : Fin P) : stack x y f z h1 h2 h3 h4 h5 (ix2 (candRow o) (left q)) = y (ix2 q o) := by
  unfold stack
  exact (beside_left (d := P + 128) _ _ h5 (candRow o) (left q) q rfl).trans
    ((turned _ h2 (candRow o) q).trans (beside_right x y h1 q (candRow o) o rfl))
theorem stack_gate_st (o : Fin 256) (q : Fin 128) : stack x y f z h1 h2 h3 h4 h5 (ix2 (gateRow o) (right q)) = f (ix2 q o) := by
  unfold stack
  exact (beside_right (d := P + 128) _ _ h5 (gateRow o) (right q) q rfl).trans
    ((turned _ h4 (gateRow o) q).trans (beside_left f z h3 q (gateRow o) o rfl))
theorem stack_cand_st (o : Fin 128) (q : Fin 128) : stack x y f z h1 h2 h3 h4 h5 (ix2 (candRow o) (right q)) = z (ix2 q o) := by
  unfold stack
  exact (beside_right (d := P + 128) _ _ h5 (candRow o) (right q) q rfl).trans
    ((turned _ h4 (candRow o) q).trans (beside_right f z h3 q (candRow o) o rfl))

/-- Weights stacked so from a cell's hold it. -/
theorem holds_of {D : ℕ} {x : M Ideal (5 * D) 256} {y : M Ideal (5 * D) 128} {f : M Ideal 128 256} {z : M Ideal 128 128}
    {h1 h2 h3 h4 h5} {wi : M Ideal 384 (5 * D + 128)} {wst : M Ideal 256 512} {bgv : M Ideal 256 1} {wct : M Ideal 128 640} {bcv : M Ideal 128 1}
    (wg : FVec Ideal ⟨2, ![5 * (D + 128), 256]⟩ .f32) (bg : FVec Ideal ⟨1, ![256]⟩ .f32)
    (wc : FVec Ideal ⟨2, ![5 * (D + 128), 128]⟩ .f32) (bc : FVec Ideal ⟨1, ![128]⟩ .f32)
    (hwi : wi = stack x y f z h1 h2 h3 h4 h5)
    (hx : ∀ (k : Fin 5) (q : Fin D) (o : Fin 256), x (ix2 (row D k q) o) = wg (ix2 (row (D + 128) k (left q)) o))
    (hy : ∀ (k : Fin 5) (q : Fin D) (o : Fin 128), y (ix2 (row D k q) o) = wc (ix2 (row (D + 128) k (left q)) o))
    (hf : ∀ (q : Fin 128) (o : Fin 256), f (ix2 q o) = wg (ix2 (row (D + 128) (0 : Fin 5) (right q)) o))
    (hz : ∀ q o : Fin 128, (z (ix2 q o) : EReal) = 0)
    (hs : ∀ (k : Fin 4) (q : Fin 128) (o : Fin 256), wst (ix2 o (row (a := 4) 128 k q)) = wg (ix2 (row (D + 128) k.succ (right q)) o))
    (hc : ∀ (k : Fin 5) (q : Fin 128) (o : Fin 128), wct (ix2 o (row (a := 5) 128 k q)) = wc (ix2 (row (D + 128) k (right q)) o))
    (hbg : ∀ o : Fin 256, bgv (ix2 o 0) = bg (ix1 o)) (hbc : ∀ o : Fin 128, bcv (ix2 o 0) = bc (ix1 o)) :
    Holds (Cert.ReferenceIdeal.Cells.cell D wg bg wc bc) wi wst bgv wct bcv where
  gate_in o k q := by rw [hwi, stack_gate_in, hx]; rfl
  gate_first o q := by rw [hwi, stack_gate_st, hf]; rfl
  cand_in o k q := by rw [hwi, stack_cand_in, hy]; rfl
  cand_zero o q := by rw [hwi, stack_cand_st, hz]
  gate_st o k q := hs k q o
  cand_st o k q := hc k q o
  gate_b := hbg
  cand_b := hbc

end Stack

variable (m : (ℓ : Loc nD τ sig) → Buf (Elt Ideal) ℓ) (c : Dev nD)

/-! Layer 0. -/

theorem v2_at (k : Fin 5) (f : Fin 64) (o : Fin 256) :
    (V m c main_v2 : FVec Ideal S320x256 .f32) (ix2 (row 64 k f) o) = (m (c.tc.loc main_arg1) : FVec Ideal S960x256 .f32) (ix2 (row (64 + 128) k (left f)) o) := by
  have hf := f.isLt
  unfold V
  after_reads_at
  refine congrArg (fun j => (m (c.tc.loc main_arg1) : FVec Ideal S960x256 .f32) (ix2 j o)) (Fin.ext ?_)
  simp only [row, left, right, Fin.val_succ]
  omega
theorem v7_at (k : Fin 5) (f : Fin 64) (o : Fin 128) :
    (V m c main_v7 : FVec Ideal S320x128 .f32) (ix2 (row 64 k f) o) = (m (c.tc.loc main_arg3) : FVec Ideal S960x128 .f32) (ix2 (row (64 + 128) k (left f)) o) := by
  have hf := f.isLt
  unfold V
  after_reads_at
  refine congrArg (fun j => (m (c.tc.loc main_arg3) : FVec Ideal S960x128 .f32) (ix2 j o)) (Fin.ext ?_)
  simp only [row, left, right, Fin.val_succ]
  omega
theorem v24_at (f : Fin 128) (o : Fin 256) :
    (V m c main_v24 : FVec Ideal S128x256 .f32) (ix2 f o) = (m (c.tc.loc main_arg1) : FVec Ideal S960x256 .f32) (ix2 (row (64 + 128) (0 : Fin 5) (right f)) o) := by
  have hf := f.isLt
  unfold V
  after_reads_at
  refine congrArg (fun j => (m (c.tc.loc main_arg1) : FVec Ideal S960x256 .f32) (ix2 j o)) (Fin.ext ?_)
  simp only [row, left, right, Fin.val_succ]
  omega
theorem v36_at (k : Fin 4) (f : Fin 128) (o : Fin 256) :
    (V m c main_v36 : FVec Ideal S256x512 .f32) (ix2 o (row (a := 4) 128 k f)) = (m (c.tc.loc main_arg1) : FVec Ideal S960x256 .f32) (ix2 (row (64 + 128) k.succ (right f)) o) := by
  have hf := f.isLt
  unfold V
  after_reads_at
  refine congrArg (fun j => (m (c.tc.loc main_arg1) : FVec Ideal S960x256 .f32) (ix2 j o)) (Fin.ext ?_)
  simp only [row, left, right, Fin.val_succ]
  omega
theorem v38_at (k : Fin 5) (f : Fin 128) (o : Fin 128) :
    (V m c main_v38 : FVec Ideal S128x640 .f32) (ix2 o (row (a := 5) 128 k f)) = (m (c.tc.loc main_arg3) : FVec Ideal S960x128 .f32) (ix2 (row (64 + 128) k (right f)) o) := by
  have hf := f.isLt
  unfold V
  after_reads_at
  refine congrArg (fun j => (m (c.tc.loc main_arg3) : FVec Ideal S960x128 .f32) (ix2 j o)) (Fin.ext ?_)
  simp only [row, left, right, Fin.val_succ]
  omega
theorem v37_at (o : Fin 256) :
    (V m c main_v37 : FVec Ideal S256x1 .f32) (ix2 o 0) = (m (c.tc.loc main_arg2) : FVec Ideal S256 .f32) (ix1 o) := by
  unfold V
  after_reads_at
theorem v39_at (o : Fin 128) :
    (V m c main_v39 : FVec Ideal S128x1 .f32) (ix2 o 0) = (m (c.tc.loc main_arg4) : FVec Ideal S128 .f32) (ix1 o) := by
  unfold V
  after_reads_at
theorem v25_at (r o : Fin 128) : (V m c main_v25 : FVec Ideal S128x128 .f32) (ix2 r o) = (0 : EReal) := by
  unfold V
  after_reads_at
theorem v20_step : (V m c main_v20 : FVec Ideal S320x384 .f32)
    = concatenate S320x384 1 [⟨S320x256, (V m c main_v2 : FVec Ideal S320x256 .f32)⟩, ⟨S320x128, (V m c main_v7 : FVec Ideal S320x128 .f32)⟩]
        concatenates_S320x256_S320x128_S320x384_d1 := by
  exact (rfl : _ = _)
theorem v26_step : (V m c main_v26 : FVec Ideal S128x384 .f32)
    = concatenate S128x384 1 [⟨S128x256, (V m c main_v24 : FVec Ideal S128x256 .f32)⟩, ⟨S128x128, (V m c main_v25 : FVec Ideal S128x128 .f32)⟩]
        concatenates_S128x256_S128x128_S128x384_d1 := by
  exact (rfl : _ = _)
theorem v32_step : (V m c main_v32 : FVec Ideal S384x448 .f32)
    = concatenate S384x448 1 [⟨S384x320, (V m c main_v21 : FVec Ideal S384x320 .f32)⟩, ⟨S384x128, (V m c main_v27 : FVec Ideal S384x128 .f32)⟩]
        concatenates_S384x320_S384x128_S384x448_d1 := by
  exact (rfl : _ = _)
theorem v21_step : (V m c main_v21 : FVec Ideal S384x320 .f32)
    = transpose S384x320 [1, 0] (V m c main_v20 : FVec Ideal S320x384 .f32) transposes_S320x384_S384x320_1_0 := by
  exact (rfl : _ = _)
theorem v27_step : (V m c main_v27 : FVec Ideal S384x128 .f32)
    = transpose S384x128 [1, 0] (V m c main_v26 : FVec Ideal S128x384 .f32) transposes_S128x384_S384x128_1_0 := by
  exact (rfl : _ = _)
theorem v32_eq : (V m c main_v32 : FVec Ideal S384x448 .f32)
    = stack (P := 320) (V m c main_v2 : FVec Ideal S320x256 .f32) (V m c main_v7 : FVec Ideal S320x128 .f32)
        (V m c main_v24 : FVec Ideal S128x256 .f32) (V m c main_v25 : FVec Ideal S128x128 .f32)
        concatenates_S320x256_S320x128_S320x384_d1 transposes_S320x384_S384x320_1_0
        concatenates_S128x256_S128x128_S128x384_d1 transposes_S128x384_S384x128_1_0
        concatenates_S384x320_S384x128_S384x448_d1 := by
  rw [v32_step, v21_step, v20_step, v27_step, v26_step]
  rfl

/-- The arguments' cell of layer 0. -/
def cell0 : Cell 64 :=
  Cert.ReferenceIdeal.Cells.cell 64 (m (c.tc.loc main_arg1)) (m (c.tc.loc main_arg2)) (m (c.tc.loc main_arg3)) (m (c.tc.loc main_arg4))

theorem holds0 : Holds (cell0 m c) (V m c main_v32 : FVec Ideal S384x448 .f32) (V m c main_v36 : FVec Ideal S256x512 .f32)
    (V m c main_v37 : FVec Ideal S256x1 .f32) (V m c main_v38 : FVec Ideal S128x640 .f32) (V m c main_v39 : FVec Ideal S128x1 .f32) :=
  holds_of _ _ _ _ (v32_eq m c) (v2_at m c) (v7_at m c) (v24_at m c) (v25_at m c) (v36_at m c) (v38_at m c)
    (v37_at m c) (v39_at m c)

/-! Layer 1. -/

theorem v12_at (k : Fin 5) (f : Fin 128) (o : Fin 256) :
    (V m c main_v12 : FVec Ideal S640x256 .f32) (ix2 (row 128 k f) o) = (m (c.tc.loc main_arg5) : FVec Ideal S1280x256 .f32) (ix2 (row (128 + 128) k (left f)) o) := by
  have hf := f.isLt
  unfold V
  after_reads_at
  refine congrArg (fun j => (m (c.tc.loc main_arg5) : FVec Ideal S1280x256 .f32) (ix2 j o)) (Fin.ext ?_)
  simp only [row, left, right, Fin.val_succ]
  omega
theorem v17_at (k : Fin 5) (f : Fin 128) (o : Fin 128) :
    (V m c main_v17 : FVec Ideal S640x128 .f32) (ix2 (row 128 k f) o) = (m (c.tc.loc main_arg7) : FVec Ideal S1280x128 .f32) (ix2 (row (128 + 128) k (left f)) o) := by
  have hf := f.isLt
  unfold V
  after_reads_at
  refine congrArg (fun j => (m (c.tc.loc main_arg7) : FVec Ideal S1280x128 .f32) (ix2 j o)) (Fin.ext ?_)
  simp only [row, left, right, Fin.val_succ]
  omega
theorem v28_at (f : Fin 128) (o : Fin 256) :
    (V m c main_v28 : FVec Ideal S128x256 .f32) (ix2 f o) = (m (c.tc.loc main_arg5) : FVec Ideal S1280x256 .f32) (ix2 (row (128 + 128) (0 : Fin 5) (right f)) o) := by
  have hf := f.isLt
  unfold V
  after_reads_at
  refine congrArg (fun j => (m (c.tc.loc main_arg5) : FVec Ideal S1280x256 .f32) (ix2 j o)) (Fin.ext ?_)
  simp only [row, left, right, Fin.val_succ]
  omega
theorem v40_at (k : Fin 4) (f : Fin 128) (o : Fin 256) :
    (V m c main_v40 : FVec Ideal S256x512 .f32) (ix2 o (row (a := 4) 128 k f)) = (m (c.tc.loc main_arg5) : FVec Ideal S1280x256 .f32) (ix2 (row (128 + 128) k.succ (right f)) o) := by
  have hf := f.isLt
  unfold V
  after_reads_at
  refine congrArg (fun j => (m (c.tc.loc main_arg5) : FVec Ideal S1280x256 .f32) (ix2 j o)) (Fin.ext ?_)
  simp only [row, left, right, Fin.val_succ]
  omega
theorem v42_at (k : Fin 5) (f : Fin 128) (o : Fin 128) :
    (V m c main_v42 : FVec Ideal S128x640 .f32) (ix2 o (row (a := 5) 128 k f)) = (m (c.tc.loc main_arg7) : FVec Ideal S1280x128 .f32) (ix2 (row (128 + 128) k (right f)) o) := by
  have hf := f.isLt
  unfold V
  after_reads_at
  refine congrArg (fun j => (m (c.tc.loc main_arg7) : FVec Ideal S1280x128 .f32) (ix2 j o)) (Fin.ext ?_)
  simp only [row, left, right, Fin.val_succ]
  omega
theorem v41_at (o : Fin 256) :
    (V m c main_v41 : FVec Ideal S256x1 .f32) (ix2 o 0) = (m (c.tc.loc main_arg6) : FVec Ideal S256 .f32) (ix1 o) := by
  unfold V
  after_reads_at
theorem v43_at (o : Fin 128) :
    (V m c main_v43 : FVec Ideal S128x1 .f32) (ix2 o 0) = (m (c.tc.loc main_arg8) : FVec Ideal S128 .f32) (ix1 o) := by
  unfold V
  after_reads_at
theorem v29_at (r o : Fin 128) : (V m c main_v29 : FVec Ideal S128x128 .f32) (ix2 r o) = (0 : EReal) := by
  unfold V
  after_reads_at
theorem v22_step : (V m c main_v22 : FVec Ideal S640x384 .f32)
    = concatenate S640x384 1 [⟨S640x256, (V m c main_v12 : FVec Ideal S640x256 .f32)⟩, ⟨S640x128, (V m c main_v17 : FVec Ideal S640x128 .f32)⟩]
        concatenates_S640x256_S640x128_S640x384_d1 := by
  exact (rfl : _ = _)
theorem v30_step : (V m c main_v30 : FVec Ideal S128x384 .f32)
    = concatenate S128x384 1 [⟨S128x256, (V m c main_v28 : FVec Ideal S128x256 .f32)⟩, ⟨S128x128, (V m c main_v29 : FVec Ideal S128x128 .f32)⟩]
        concatenates_S128x256_S128x128_S128x384_d1 := by
  exact (rfl : _ = _)
theorem v33_step : (V m c main_v33 : FVec Ideal S384x768 .f32)
    = concatenate S384x768 1 [⟨S384x640, (V m c main_v23 : FVec Ideal S384x640 .f32)⟩, ⟨S384x128, (V m c main_v31 : FVec Ideal S384x128 .f32)⟩]
        concatenates_S384x640_S384x128_S384x768_d1 := by
  exact (rfl : _ = _)
theorem v23_step : (V m c main_v23 : FVec Ideal S384x640 .f32)
    = transpose S384x640 [1, 0] (V m c main_v22 : FVec Ideal S640x384 .f32) transposes_S640x384_S384x640_1_0 := by
  exact (rfl : _ = _)
theorem v31_step : (V m c main_v31 : FVec Ideal S384x128 .f32)
    = transpose S384x128 [1, 0] (V m c main_v30 : FVec Ideal S128x384 .f32) transposes_S128x384_S384x128_1_0 := by
  exact (rfl : _ = _)
theorem v33_eq : (V m c main_v33 : FVec Ideal S384x768 .f32)
    = stack (P := 640) (V m c main_v12 : FVec Ideal S640x256 .f32) (V m c main_v17 : FVec Ideal S640x128 .f32)
        (V m c main_v28 : FVec Ideal S128x256 .f32) (V m c main_v29 : FVec Ideal S128x128 .f32)
        concatenates_S640x256_S640x128_S640x384_d1 transposes_S640x384_S384x640_1_0
        concatenates_S128x256_S128x128_S128x384_d1 transposes_S128x384_S384x128_1_0
        concatenates_S384x640_S384x128_S384x768_d1 := by
  rw [v33_step, v23_step, v22_step, v31_step, v30_step]
  rfl

/-- The arguments' cell of layer 1. -/
def cell1 : Cell 128 :=
  Cert.ReferenceIdeal.Cells.cell 128 (m (c.tc.loc main_arg5)) (m (c.tc.loc main_arg6)) (m (c.tc.loc main_arg7)) (m (c.tc.loc main_arg8))

theorem holds1 : Holds (cell1 m c) (V m c main_v33 : FVec Ideal S384x768 .f32) (V m c main_v40 : FVec Ideal S256x512 .f32)
    (V m c main_v41 : FVec Ideal S256x1 .f32) (V m c main_v42 : FVec Ideal S128x640 .f32) (V m c main_v43 : FVec Ideal S128x1 .f32) :=
  holds_of _ _ _ _ (v33_eq m c) (v12_at m c) (v17_at m c) (v28_at m c) (v29_at m c) (v40_at m c) (v42_at m c)
    (v41_at m c) (v43_at m c)

/-- The last layer's bias. -/
theorem v44_at : (V m c main_v44 : FVec Ideal S1x1 .f32) (ix2 0 0) = (m (c.tc.loc main_arg10) : FVec Ideal S1 .f32) (ix1 0) := by
  unfold V
  after_reads_at

end Cert.KernelIdeal.Final

end
-- ==== Proof.Steps.lean ====
module

public import proofs.«01_k».proof.Proof.Layer

/-! The kernel's twelve time steps are the twelve steps of the mathematics, along each batch row. -/

@[expose] public section

set_option synthInstance.maxSize 4096

noncomputable section

namespace Cert.KernelIdeal.Model

open Idealize.ShloMosaic Cert.Spec

/-- A batch row's inputs at time step `t`. -/
def xs (X : Fin 16 → M Ideal 768 128) (i : Fin 16) (t : ℕ) (n : Fin 128) (c : Fin 64) : EReal :=
  X i (ix2 (at' (Fin.ofNat 12 t) c) n)

section

variable {S : Fin 16 → M Ideal 128 512} {X : Fin 16 → M Ideal 768 128} {i : Fin 16} {A B : Mat}

theorem rd_withDiff {v : M Ideal 128 2048} {d : Fin 4 → M Ideal 128 2048} {y : Mat} (hy : rd v i = y)
    (hd : ∀ k n f, rd (d k) i n f = dif A B k.succ (fun j => y j f) n) (n : Fin 128) (m : Fin 5) (f : Fin 128) :
    rd (withDiff v d) i n (row (a := 5) 128 m f) = dif A B m (fun j => y j f) n := by
  refine (rd_cat5 (Fin.cons v d) i n m f).trans ?_
  refine Fin.cases ?_ (fun k => ?_) m
  · exact congrFun (congrFun hy n) f
  · exact hd k n f

variable (hS : Diffuses (S i) A B)

include hS

theorem rd_diffuse_real {v : M Ideal 128 2048} {y : Mat} (hy : rd v i = y) (hf : ∀ n f, Fin' (y n f)) (k : Fin 4)
    (n f : Fin 128) : rd (diffuse S v k) i n f = dif A B k.succ (fun j => y j f) n := by
  rw [rd_diffuse, hy]
  exact hS k n _ fun j => hf j f

/-- The diffusions of the two layers' states together, read in either. -/
theorem rd_both {h0 h1 : M Ideal 128 2048} {y z : Mat} (hy : rd h0 i = y) (hz : rd h1 i = z) (fy : ∀ n f, Fin' (y n f))
    (fz : ∀ n f, Fin' (z n f)) (k : Fin 4) (n f : Fin 128) :
    rd (blk 128 2048 0 0 (both S h0 h1 k)) i n f = dif A B k.succ (fun j => y j f) n
    ∧ rd (blk 128 2048 128 0 (both S h0 h1 k)) i n f = dif A B k.succ (fun j => z j f) n := by
  have hp := rd_pair (a := 128) (b := 128) h0 h1 concats256 i
  have l : rd (blk 128 2048 0 0 (both S h0 h1 k)) i n f = rd (both S h0 h1 k) i n (left (a := 128) (b := 128) f) :=
    (rd_blk _ _ _ i n f).trans (congrArg (rd (both S h0 h1 k) i n) (Fin.ext (Nat.zero_add _)))
  have r : rd (blk 128 2048 128 0 (both S h0 h1 k)) i n f = rd (both S h0 h1 k) i n (right (a := 128) (b := 128) f) :=
    rd_blk _ _ _ i n f
  rw [l, r]
  unfold both
  rw [rd_diffuse, rd_diffuse]
  refine ⟨Eq.trans (Finset.sum_congr rfl fun j _ => ?_) (hS k n _ fun j => fy j f),
    Eq.trans (Finset.sum_congr rfl fun j _ => ?_) (hS k n _ fun j => fz j f)⟩
  · exact congrArg (· * _) (((hp j).1 f).trans (congrFun (congrFun hy j) f))
  · exact congrArg (· * _) (((hp j).2 f).trans (congrFun (congrFun hz j) f))

variable (hX : ∀ r n, Fin' (X i (ix2 r n)))

include hX

theorem rd_inputs (t : Fin 12) (n : Fin 128) (m : Fin 5) (c : Fin 64) :
    rd (inputs S X t) i n (row (a := 5) 64 m c) = dif A B m (fun j => X i (ix2 (at' t c) j)) n := by
  refine (rd_cat5x (Fin.cons (input X t) (inputDiff S X t)) i n m c).trans ?_
  refine Fin.cases ?_ (fun k => ?_) m
  · exact rd_input X t i n c
  · exact (rd_inputDiff S X t k i n c).trans (hS k n _ fun j => hX _ j)

end

/-- The kernel's states along one batch row are the given ones, which are real. -/
structure Along (i : Fin 16) (A B : Mat) (s : State Ideal) (q : Mat × Mat) : Prop where
  h0 : rd s.h0 i = q.1
  d0 : ∀ k n f, rd (s.d0 k) i n f = dif A B k.succ (fun j => q.1 j f) n
  h1 : rd s.h1 i = q.2
  f0 : ∀ n f, Fin' (q.1 n f)
  f1 : ∀ n f, Fin' (q.2 n f)

section

variable {W : Weights Ideal} {S : Fin 16 → M Ideal 128 512} {X : Fin 16 → M Ideal 768 128} {i : Fin 16} {A B : Mat}
  {p : Cell 64} {q : Cell 128}
  (H : Holds p W.wi0 W.wg0 W.bg0 W.wc0 W.bc0) (H' : Holds q W.wi1 W.wg1 W.bg1 W.wc1 W.bc1)
  (hS : Diffuses (S i) A B) (hX : ∀ r n, Fin' (X i (ix2 r n)))

include H H' hS hX

theorem along_first : Along i A B (first W S X) (states p q A B (xs X i) 1) := by
  have e0 : rd (first0 W S X) i = p.next A B (xs X i 0) (fun _ _ => 0) :=
    rd_gruZero (D := 64) H (by decide) (by decide) fun n m c => rd_inputs hS hX 0 n m c
  have f0 : ∀ n f, Fin' (p.next A B (xs X i 0) (fun _ _ => 0) n f) := fin_next _ _ _ _ _ fun _ _ => Fin'.zero
  have hd := rd_diffuse_real hS e0 f0
  exact ⟨e0, hd, rd_gruZero (D := 128) H' (by decide) (by decide) fun n m c => rd_withDiff e0 hd n m c, f0,
    fin_next _ _ _ _ _ fun _ _ => Fin'.zero⟩

theorem along_next (t : ℕ) (ht : t < 12) {s : State Ideal} {y : Mat × Mat} (hs : Along i A B s y) :
    Along i A B (next W S X ⟨t, ht⟩ s) (step p q A B (xs X i t) y) := by
  have hx : ∀ n c, xs X i t n c = X i (ix2 (at' ⟨t, ht⟩ c) n) := fun n c =>
    congrArg (fun a => X i (ix2 (at' a c) n)) (Fin.ext (Nat.mod_eq_of_lt ht))
  have e0 : rd (next0 W S X ⟨t, ht⟩ s) i = p.next A B (xs X i t) y.1 := by
    have hp := rd_pair (a := 320) (b := 128) (inputs S X ⟨t, ht⟩) s.h0 concats448 i
    rw [← hs.h0]
    refine rd_gru (D := 64) H hS (fun n f => by rw [hs.h0]; exact hs.f0 n f) (fun n m c => ?_) (fun n f => (hp n).2 f) fun k n f => ?_
    · simp only [hx]
      exact ((hp n).1 _).trans (rd_inputs hS hX ⟨t, ht⟩ n m c)
    · rw [hs.h0]; exact hs.d0 k n f
  have f0 : ∀ n f, Fin' (p.next A B (xs X i t) y.1 n f) := fin_next _ _ _ _ _ hs.f0
  have hb := rd_both hS e0 hs.h1 f0 hs.f1
  refine ⟨e0, fun k n f => (hb k n f).1, ?_, f0, fin_next _ _ _ _ _ hs.f1⟩
  have hp := rd_pair (a := 640) (b := 128)
    (withDiff (next0 W S X ⟨t, ht⟩ s) fun k => blk 128 2048 0 0 (both S (next0 W S X ⟨t, ht⟩ s) s.h1 k)) s.h1 concats768 i
  show rd (next1 W S (next0 W S X ⟨t, ht⟩ s) s.h1) i = q.next A B (p.next A B (xs X i t) y.1) y.2
  rw [← hs.h1]
  refine rd_gru (D := 128) H' hS (fun n f => by rw [hs.h1]; exact hs.f1 n f)
    (fun n m c => ((hp n).1 _).trans (rd_withDiff e0 (fun k n f => (hb k n f).1) n m c)) (fun n f => (hp n).2 f) fun k n f => ?_
  rw [hs.h1]; exact (hb k n f).2

/-- The second layer's state after all time steps. -/
theorem rd_last : rd (last W S X).h1 i = (states p q A B (xs X i) 12).2 := by
  have a1 := along_first H H' hS hX
  have a2 := along_next H H' hS hX 1 (by decide) a1
  have a3 := along_next H H' hS hX 2 (by decide) a2
  have a4 := along_next H H' hS hX 3 (by decide) a3
  have a5 := along_next H H' hS hX 4 (by decide) a4
  have a6 := along_next H H' hS hX 5 (by decide) a5
  have a7 := along_next H H' hS hX 6 (by decide) a6
  have a8 := along_next H H' hS hX 7 (by decide) a7
  have a9 := along_next H H' hS hX 8 (by decide) a8
  have a10 := along_next H H' hS hX 9 (by decide) a9
  have a11 := along_next H H' hS hX 10 (by decide) a10
  exact (along_next H H' hS hX 11 (by decide) a11).h1

end

end Cert.KernelIdeal.Model
-- ==== Proof.KernelCorr.lean ====
module

public import proofs.«01_k».proof.Proof.Corr
public import proofs.«01_k».proof.Proof.Layer

/-! The kernel's four matrices of a batch row make the diffusions by that row's two supports. -/

@[expose] public section

set_option synthInstance.maxSize 4096

noncomputable section

namespace Cert.KernelIdeal.Model

open Idealize.ShloMosaic Cert.Spec

/-- A matrix of the series as a function. -/
def fn (v : M Ideal 768 128) (r : Fin 768) (n : Fin 128) : EReal := v (ix2 r n)

theorem named_inv : Named.named (F := Ideal) (φ := .f32) κ "inv768" 0x3AAAAAAB#32 = ((768⁻¹ : ℝ) : EReal) :=
  (IdealRules.named_const.statement κ "inv768" .f32 0x3AAAAAAB#32 _ rfl).2.2

theorem centred_apply (v : M Ideal 768 128) (r : Fin 768) (n : Fin 128) : centred v (ix2 r n) = cen (fn v) r n := by
  unfold centred colSum
  pointwise
  rw [named_inv]
  rfl

theorem adj_apply (v : M Ideal 768 128) (k n : Fin 128) : adj (centred v) (ix2 k n) = cor (fn v) k n := by
  unfold adj vari colSum
  pointwise
  simp only [centred_apply]
  rfl

theorem sup0_apply (v : M Ideal 768 128) (k n : Fin 128) : sup0 (adj (centred v)) (ix2 k n) = supA (fn v) n k := by
  unfold sup0
  pointwise
  simp only [adj_apply]
  rfl

theorem sup1_apply (v : M Ideal 768 128) (k n : Fin 128) : sup1 (adj (centred v)) (ix2 k n) = supB (fn v) n k := by
  unfold sup1 colSum
  pointwise
  simp only [adj_apply]
  rfl

theorem same_node (j n : Fin 128) :
    Scalar.select (IntOp.cmpi .eq (BitVec.ofNat 32 j) (BitVec.ofNat 32 n)) (1 : EReal) 0 = if j = n then 1 else 0 := by
  have h : (BitVec.ofNat 32 j.val = BitVec.ofNat 32 n.val) ↔ j = n := by
    rw [← BitVec.toNat_inj, BitVec.toNat_ofNat, BitVec.toNat_ofNat, Fin.ext_iff]
    omega
  unfold Scalar.select IntOp.cmpi
  by_cases e : j = n
  · simp [e]
  · have : (BitVec.ofNat 32 j.val == BitVec.ofNat 32 n.val) = false := beq_false_of_ne (mt h.mp e)
    simp [e, this]

theorem order2_apply (s : M Ideal 128 128) (A : Mat) (hs : ∀ k n, s (ix2 k n) = A n k) (j n : Fin 128) :
    order2 s (ix2 j n) = (∑ k, A k j * A n k) * two - if j = n then 1 else 0 := by
  unfold order2 eye
  pointwise
  rw [← same_node]
  simp only [hs]
  rfl

/-- The four matrices of a real, varied series make its supports' diffusions. -/
theorem diffuses (v : M Ideal 768 128) (H : Varied (fn v)) : Diffuses (supports v) (supA (fn v)) (supB (fn v)) := by
  intro k n y hy
  simp only [supports_apply]
  match k with
  | 0 =>
    exact Finset.sum_congr rfl fun j _ => (congrArg (y j * ·) (sup0_apply v j n)).trans (mul_comm _ _)
  | 1 =>
    refine Eq.trans (Finset.sum_congr rfl fun j _ => ?_) (second_order (fin_supA H) hy n)
    exact congrArg (y j * ·) (order2_apply _ _ (sup0_apply v) j n)
  | 2 =>
    exact Finset.sum_congr rfl fun j _ => (congrArg (y j * ·) (sup1_apply v j n)).trans (mul_comm _ _)
  | 3 =>
    refine Eq.trans (Finset.sum_congr rfl fun j _ => ?_) (second_order (fin_supB H) hy n)
    exact congrArg (y j * ·) (order2_apply _ _ (sup1_apply v) j n)

end Cert.KernelIdeal.Model
-- ==== Proof.KernelResult.lean ====
module

public import proofs.«01_k».proof.Proof.Steps
public import proofs.«01_k».proof.Proof.KernelCorr

/-! The kernel's result along a batch row: the greatest readout of the last state of the second layer. -/

@[expose] public section

set_option synthInstance.maxSize 4096

noncomputable section

namespace Cert.KernelIdeal.Model

open Idealize.ShloMosaic Cert.Spec

theorem readout_apply (h : M Ideal 128 2048) (w : M Ideal 128 1) (b : M Ideal 1 1) (i : Fin 16) (n : Fin 128) :
    readout h w b (ix2 0 (col i n)) = ∑ f, max (rd h i n f) 0 * w (ix2 f 0) + b (ix2 0 0) := by
  unfold readout
  pointwise
  rfl

theorem top_apply (l : M Ideal 1 2048) (i : Fin 16) (n : Fin 128) :
    top l i (ix3 0 0 n) = Finset.univ.fold max (Ideal.ofBits .f32 0xFF800000#32) fun n => l (ix2 0 (col i n)) := by
  unfold top blk
  pointwise
  have e : (Finset.univ : Finset (Fin 1 × Fin 128)) = Finset.univ.map ⟨fun n => (0, n), fun a b h => (Prod.mk.inj h).2⟩ := by
    ext ⟨a, b⟩
    simp only [Finset.mem_univ, Finset.mem_map, true_and, true_iff, Subsingleton.elim a 0]
    exact ⟨b, rfl⟩
  rw [e, Finset.fold_map]
  rfl

theorem collect_apply (l : M Ideal 1 2048) (i : Fin 16) (n : Fin 128) : collect l (ix3 i 0 n) = top l i (ix3 0 0 n) := by
  unfold collect
  refine concatenate_ofFn_apply (t := S16x1x128) (s₁ := S1x1x128) 0 (top l) concatsTop rfl 1 rfl (ix3 i 0 n) i ?_ (ix3 0 0 n) ?_ ?_
  · show i.val / 1 = i.val
    omega
  · show 0 = i.val % 1
    omega
  · intro b hb
    match b with
    | ⟨0, _⟩ => exact absurd rfl hb
    | ⟨1, _⟩ => rfl
    | ⟨2, _⟩ => rfl

/-- The kernel's result, from the cells that its weights hold. -/
theorem result_apply {W : Weights Ideal} {X : Fin 16 → M Ideal 768 128} {p : Cell 64} {q : Cell 128}
    (H : Holds p W.wi0 W.wg0 W.bg0 W.wc0 W.bc0) (H' : Holds q W.wi1 W.wg1 W.bg1 W.wc1 W.bc1) (i : Fin 16)
    (hX : Varied (fn (X i))) (n : Fin 128) :
    result W X (ix3 i 0 n) = best (states p q (supA (fn (X i))) (supB (fn (X i))) (xs X i) 12).2
      (fun f => W.wfc (ix2 f 0)) (W.bfc (ix2 0 0)) := by
  unfold result
  rw [collect_apply, top_apply]
  unfold best
  simp only [readout_apply, rd_last (S := fun i => supports (X i)) H H' (diffuses (X i) hX) hX.real]

end Cert.KernelIdeal.Model
-- ==== Proof.RefValue.lean ====
module

public import proofs.«01_k».proof.Proof.RefCorr

/-! The reference's result along a batch row: twelve time steps from zero, then the greatest readout. -/

@[expose] public section

set_option synthInstance.maxSize 4096

noncomputable section

namespace Cert.ReferenceIdeal.Cells

open Idealize.ShloMosaic Cert.Spec Cert.ReferenceIdeal Cert.ReferenceIdeal.Step

variable (x : Inputs) (wg0 : FVec Ideal S960x256 .f32) (bg0 : FVec Ideal S256 .f32) (wc0 : FVec Ideal S960x128 .f32)
  (bc0 : FVec Ideal S128 .f32) (wg1 : FVec Ideal S1280x256 .f32) (bg1 : FVec Ideal S256 .f32)
  (wc1 : FVec Ideal S1280x128 .f32) (bc1 : FVec Ideal S128 .f32)

/-- The loop's state after `t` trips. -/
def trips : ℕ → State Ideal
  | 0 => Step.init x wg0 bg0 wc0 bc0 wg1 bg1 wc1 bc1
  | t + 1 => Step.step t (trips t)

/-- A batch row's inputs at time step `t`. -/
def inp (i : Fin 16) (t : ℕ) (n : Fin 128) (c : Fin 64) : EReal := x (ix4 i (Fin.ofNat 12 t) n c)

/-- What the loop's state holds after `t` trips. -/
structure Holds (i : Fin 16) (s : State Ideal) (y : Mat × Mat) : Prop where
  h0 : at3 s.main_v33_12 i = y.1
  h1 : at3 s.main_v33_13 i = y.2
  e0 : s.main_v33_0 = x
  e1 : s.main_v33_1 = A_main_v30 x
  e2 : s.main_v33_2 = wg0
  e3 : s.main_v33_3 = bg0
  e4 : s.main_v33_4 = wc0
  e5 : s.main_v33_5 = bc0
  e6 : s.main_v33_6 = wg1
  e7 : s.main_v33_7 = bg1
  e8 : s.main_v33_8 = wc1
  e9 : s.main_v33_9 = bc1

theorem trips_step (i : Fin 16) (H : Varied (ser x i)) (t : ℕ) (ht : t < 12) {s : State Ideal} {y : Mat × Mat}
    (h : Holds x wg0 bg0 wc0 bc0 wg1 bg1 wc1 bc1 i s y) :
    Holds x wg0 bg0 wc0 bc0 wg1 bg1 wc1 bc1 i (Step.step t s)
      (Spec.step (cell 64 wg0 bg0 wc0 bc0) (cell 128 wg1 bg1 wc1 bc1) (supA (ser x i)) (supB (ser x i)) (inp x i t) y) := by
  have hs := sup_at x i H
  have hi : at3 (b12 t s) i = inp x i t := by
    funext n c
    have hm : (Fin.ofNat 12 t).val = t := Nat.mod_eq_of_lt ht
    have e := trip_input s i (Fin.ofNat 12 t) n c
    rw [hm, h.e0] at e
    exact e
  have h0 := layer0 t s i
  have h1 := layer1 t s i
  rw [hi, h.h0, h.e1, h.e2, h.e3, h.e4, h.e5, hs.1, hs.2] at h0
  rw [h0, h.h1, h.e1, h.e6, h.e7, h.e8, h.e9, hs.1, hs.2] at h1
  refine ⟨?_, ?_, h.e0, h.e1, h.e2, h.e3, h.e4, h.e5, h.e6, h.e7, h.e8, h.e9⟩
  · rw [step_main_v33_12]; exact h0
  · rw [step_main_v33_13]; exact h1

theorem trips_holds (i : Fin 16) (H : Varied (ser x i)) : ∀ t ≤ 12,
    Holds x wg0 bg0 wc0 bc0 wg1 bg1 wc1 bc1 i (trips x wg0 bg0 wc0 bc0 wg1 bg1 wc1 bc1 t)
      (states (cell 64 wg0 bg0 wc0 bc0) (cell 128 wg1 bg1 wc1 bc1) (supA (ser x i)) (supB (ser x i)) (inp x i) t) := by
  intro t ht
  induction t with
  | zero =>
    refine ⟨?_, ?_, rfl, rfl, rfl, rfl, rfl, rfl, rfl, rfl, rfl, rfl⟩
    · exact funext fun n => funext fun f => Ideal.ofBits_zero_f32
    · exact funext fun n => funext fun f => Ideal.ofBits_zero_f32
  | succ t ih =>
    exact trips_step x wg0 bg0 wc0 bc0 wg1 bg1 wc1 bc1 i H t (by omega) (ih (by omega))

/-- The reference's result. -/
theorem result_at (wfc : FVec Ideal S128x1 .f32) (bfc : FVec Ideal S1 .f32) (i : Fin 16) (H : Varied (ser x i)) (n : Fin 128) :
    (R_main_v42 (trips x wg0 bg0 wc0 bc0 wg1 bg1 wc1 bc1 12) wfc bfc (ix3 i 0 n) : EReal)
      = best (states (cell 64 wg0 bg0 wc0 bc0) (cell 128 wg1 bg1 wc1 bc1) (supA (ser x i)) (supB (ser x i)) (inp x i) 12).2
          (fun f => wfc (ix2 f 0)) (bfc (ix1 0)) := by
  rw [← (trips_holds x wg0 bg0 wc0 bc0 wg1 bg1 wc1 bc1 i H 12 le_rfl).h1]
  unfold R_main_v42
  clean_types
  pointwise
  rfl

end Cert.ReferenceIdeal.Cells
-- ==== Proof.Agree.lean ====
module

public import proofs.«01_k».proof.Proof.HostRead
public import proofs.«01_k».proof.Proof.KernelResult
public import proofs.«01_k».proof.Proof.RefValue

/-! The two programs' results of the same arguments are equal. -/

@[expose] public section

set_option maxRecDepth 100000

noncomputable section

namespace Cert.Agree

open Idealize.ShloMosaic Idealize.ShloMosaic.TcCoe Idealize.SL.Sem
open Cert.Spec Cert.KernelIdeal.Model Cert.KernelIdeal.Final Cert.ReferenceIdeal.Cells

theorem batch_at (x : Inputs) (b : Fin 16) (t : Fin 12) (n : Fin 128) (f : Fin 64) :
    batch (F := Ideal) x b (ix4 0 t n f) = x (ix4 b t n f) := by
  unfold batch
  pointwise

/-- A batch row's series in the kernel is the reference's. -/
theorem series_at (x : Inputs) (b : Fin 16) (r : Fin 768) (n : Fin 128) :
    (series (batch (F := Ideal) x b) (ix2 r n) : EReal) = ser x b r n := by
  have e : (series (batch (F := Ideal) x b) (ix2 r n) : EReal) = batch (F := Ideal) x b (ix4 0 ⟨r / 64, by omega⟩ n ⟨r % 64, by omega⟩) := by
    unfold series
    pointwise
  exact e.trans (batch_at x b _ n _)

theorem series_eq (x : Inputs) (b : Fin 16) : fn (series (batch (F := Ideal) x b)) = ser x b :=
  funext fun r => funext fun n => series_at x b r n

/-- The inputs of a step are the same. -/
theorem steps_eq (x : Inputs) (b : Fin 16) : xs (fun b => series (batch (F := Ideal) x b)) b = inp x b := by
  funext t n f
  have h := f.isLt
  refine (series_at x b _ n).trans (congrArg₂ (fun p q => x (ix4 b p n q)) (Fin.ext ?_) (Fin.ext ?_))
  · show (64 * (Fin.ofNat 12 t).val + f.val) / 64 = _
    omega
  · show (64 * (Fin.ofNat 12 t).val + f.val) % 64 = _
    omega

/-- The kernel's result of weights that hold two cells. -/
theorem result_of {p : Cell 64} {q : Cell 128} {W : Weights Ideal} (x : Inputs)
    (H : Holds p W.wi0 W.wg0 W.bg0 W.wc0 W.bc0) (H' : Holds q W.wi1 W.wg1 W.bg1 W.wc1 W.bc1)
    (w : Fin 128 → EReal) (hw : ∀ f, W.wfc (ix2 f 0) = w f) (d : EReal) (hd : W.bfc (ix2 0 0) = d)
    (i : Fin 16) (hx : Varied (ser x i)) (n : Fin 128) :
    (result W (fun b => series (batch (F := Ideal) x b)) (ix3 i 0 n) : EReal)
      = best (states p q (supA (ser x i)) (supB (ser x i)) (inp x i) 12).2 w d := by
  have e := result_apply (X := fun b => series (batch (F := Ideal) x b)) H H' i (by rw [series_eq]; exact hx) n
  rw [series_eq, steps_eq, hd, funext hw] at e
  exact e

section Result

variable (m : (ℓ : Loc Cert.KernelIdeal.nD Cert.KernelIdeal.τ Cert.KernelIdeal.sig) → Buf (Elt Ideal) ℓ) (c : Dev Cert.KernelIdeal.nD)

open Cert.KernelIdeal Cert.KernelIdeal.Gen

/-- The reference's result of the kernel's arguments. -/
def refResult : FVec Ideal S16x1x128 .f32 :=
  Cert.ReferenceIdeal.Step.R_main_v42
    (trips (m (c.tc.loc main_arg0)) (m (c.tc.loc main_arg1)) (m (c.tc.loc main_arg2)) (m (c.tc.loc main_arg3)) (m (c.tc.loc main_arg4))
      (m (c.tc.loc main_arg5)) (m (c.tc.loc main_arg6)) (m (c.tc.loc main_arg7)) (m (c.tc.loc main_arg8)) 12)
    (m (c.tc.loc main_arg9)) (m (c.tc.loc main_arg10))

/-- The weights hold the two cells and the last layer. -/
theorem weights_first : Holds (cell0 m c) (weights m c).wi0 (weights m c).wg0 (weights m c).bg0 (weights m c).wc0 (weights m c).bc0 :=
  holds0 m c
theorem weights_second : Holds (cell1 m c) (weights m c).wi1 (weights m c).wg1 (weights m c).bg1 (weights m c).wc1 (weights m c).bc1 :=
  holds1 m c
theorem weights_column : (weights m c).wfc = m (c.tc.loc main_arg9) := V_main_arg9 m c
theorem weights_bias : (weights m c).bfc (ix2 0 0) = (m (c.tc.loc main_arg10) : FVec Ideal S1 .f32) (ix1 0) := v44_at m c
theorem final_def : final m c = result (weights m c) fun b => series (batch (F := Ideal) (m (c.tc.loc main_arg0)) b) := by
  unfold final
  rw [V_main_arg0]

/-- The kernel's result array at a node. -/
theorem final_at (i : Fin 16) (H : Varied (ser (m (c.tc.loc main_arg0)) i)) (n : Fin 128) :
    (final m c (ix3 i 0 n) : EReal)
      = best (states (cell0 m c) (cell1 m c) (supA (ser (m (c.tc.loc main_arg0)) i)) (supB (ser (m (c.tc.loc main_arg0)) i))
          (inp (m (c.tc.loc main_arg0)) i) 12).2
          (fun f => (m (c.tc.loc main_arg9) : FVec Ideal S128x1 .f32) (ix2 f 0))
          ((m (c.tc.loc main_arg10) : FVec Ideal S1 .f32) (ix1 0)) := by
  rw [final_def]
  exact result_of _ (weights_first m c) (weights_second m c) _ (fun f => by rw [weights_column]) _ (weights_bias m c) i H n

/-- The kernel's result is the reference's. -/
theorem final_eq (H : ∀ i, Varied (ser (m (c.tc.loc main_arg0)) i)) : final m c = refResult m c := by
  funext j
  obtain ⟨i, n, rfl⟩ : ∃ (i : Fin 16) (n : Fin 128), j = ix3 i 0 n :=
    ⟨j 0, j 2, funext fun a => by
      match a with
      | ⟨0, _⟩ => rfl
      | ⟨1, _⟩ => exact Subsingleton.elim (α := Fin 1) _ _
      | ⟨2, _⟩ => rfl⟩
  exact (final_at m c i (H i) n).trans (result_at _ _ _ _ _ _ _ _ _ _ _ i (H i) n).symm

end Result

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Precondition
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel's run ends, keeps its arguments and leaves every counter at zero. -/
theorem frameKernel : Cert.quiescent_Kernel := fun m ρ _ => Cert.Kernel.Gen.frame m ρ

/-- So does the idealized kernel's. -/
theorem frameIdeal : Cert.quiescent_KernelIdeal := fun m ρ _ => Cert.KernelIdeal.Gen.frame m ρ

/-- So does the reference's, a host program that declares no counter. -/
theorem frameReference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The constant named 1/768 is that number. -/
theorem preserves : Cert.preserves_Kernel_KernelIdeal :=
  IdealRules.named_const.statement Cert.KernelIdeal.κ "inv768" .f32 0x3AAAAAAB#32 _ rfl

/-- The reference's result of arguments that agree with the kernel's. -/
theorem reference_eq (m : (ℓ : Loc KernelIdeal.nD KernelIdeal.τ KernelIdeal.sig) → Buf (Elt Ideal) ℓ) (c : Dev KernelIdeal.nD)
    (H : ∀ i, Spec.Varied (ReferenceIdeal.Cells.ser (m (c.tc.loc KernelIdeal.main_arg0)) i))
    {a0 : FVec Ideal KernelIdeal.S16x12x128x64 .f32} {a1 : FVec Ideal KernelIdeal.S960x256 .f32} {a2 : FVec Ideal KernelIdeal.S256 .f32}
    {a3 : FVec Ideal KernelIdeal.S960x128 .f32} {a4 : FVec Ideal KernelIdeal.S128 .f32} {a5 : FVec Ideal KernelIdeal.S1280x256 .f32}
    {a6 : FVec Ideal KernelIdeal.S256 .f32} {a7 : FVec Ideal KernelIdeal.S1280x128 .f32} {a8 : FVec Ideal KernelIdeal.S128 .f32}
    {a9 : FVec Ideal KernelIdeal.S128x1 .f32} {a10 : FVec Ideal KernelIdeal.S1 .f32}
    (e0 : a0 = m (c.tc.loc KernelIdeal.main_arg0)) (e1 : a1 = m (c.tc.loc KernelIdeal.main_arg1)) (e2 : a2 = m (c.tc.loc KernelIdeal.main_arg2))
    (e3 : a3 = m (c.tc.loc KernelIdeal.main_arg3)) (e4 : a4 = m (c.tc.loc KernelIdeal.main_arg4)) (e5 : a5 = m (c.tc.loc KernelIdeal.main_arg5))
    (e6 : a6 = m (c.tc.loc KernelIdeal.main_arg6)) (e7 : a7 = m (c.tc.loc KernelIdeal.main_arg7)) (e8 : a8 = m (c.tc.loc KernelIdeal.main_arg8))
    (e9 : a9 = m (c.tc.loc KernelIdeal.main_arg9)) (e10 : a10 = m (c.tc.loc KernelIdeal.main_arg10)) :
    ReferenceIdeal.Step.R_main_v42 (ReferenceIdeal.Cells.trips a0 a1 a2 a3 a4 a5 a6 a7 a8 12) a9 a10 = KernelIdeal.Final.final m c := by
  subst e0 e1 e2 e3 e4 e5 e6 e7 e8 e9 e10
  exact (Agree.final_eq m c H).symm

/-- On series that are real and take two values the two programs return the same extended reals. -/
theorem algebraic : Cert.algebraic_KernelIdeal_ReferenceIdeal_pre_varied := by
  intro m g m' g' hpre hagree
  have H : ∀ (c : Dev KernelIdeal.nD) (i : Fin 16), Spec.Varied (ReferenceIdeal.Cells.ser (m (c.tc.loc KernelIdeal.main_arg0)) i) :=
    fun c i => Pre_varied.varied (hpre c).1 (hpre c).2 i
  refine ⟨fun c => KernelIdeal.Final.final m c, ?_, ?_⟩
  · exact (θ_run _ _ _).mono (fun r h c => ⟨(h c).1.trans (KernelIdeal.Final.arr_eq m c), (h c).2⟩)
      (KernelIdeal.Value.run_blocks m g)
  · have run := ReferenceIdeal.StepRun.run_iter (F := Ideal) m' g'
      (fun c => ReferenceIdeal.Cells.trips (m' (c.tc.loc ReferenceIdeal.main_arg0)) (m' (c.tc.loc ReferenceIdeal.main_arg1))
        (m' (c.tc.loc ReferenceIdeal.main_arg2)) (m' (c.tc.loc ReferenceIdeal.main_arg3)) (m' (c.tc.loc ReferenceIdeal.main_arg4))
        (m' (c.tc.loc ReferenceIdeal.main_arg5)) (m' (c.tc.loc ReferenceIdeal.main_arg6)) (m' (c.tc.loc ReferenceIdeal.main_arg7))
        (m' (c.tc.loc ReferenceIdeal.main_arg8))) (fun c => rfl) (fun c n => rfl)
    refine (θ_run _ _ _).mono (fun r h c => ⟨(h c).1.trans ?_, (h c).2⟩) run
    obtain ⟨e0, e1, e2, e3, e4, e5, e6, e7, e8, e9, e10⟩ := hagree c
    exact reference_eq m c (H c) e0 e1 e2 e3 e4 e5 e6 e7 e8 e9 e10

theorem claim : Cert.Claim := ⟨Cert.Kernel.Gen.facts, Cert.KernelIdeal.Gen.facts, Cert.ReferenceIdeal.Gen.facts, Cert.Pre_varied.facts,
  frameKernel, frameIdeal, fun m ρ _ => frameIdeal m ρ trivial, frameReference, fun m ρ _ => frameReference m ρ trivial,
  preserves, algebraic⟩

end Cert.Proof

end
